-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S9 : Shape := ⟨1, ![9]⟩
abbrev S_ : Shape := ⟨0, ![]⟩
abbrev S128x1024 : Shape := ⟨2, ![128, 1024]⟩
abbrev S1 : Shape := ⟨1, ![1]⟩
abbrev S576x1024 : Shape := ⟨2, ![576, 1024]⟩
abbrev S512x1024 : Shape := ⟨2, ![512, 1024]⟩
abbrev S224x1024 : Shape := ⟨2, ![224, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .local _ .vmem, ⟨0, _⟩ => ⟨S4096x1024, .bf16⟩
  | .local _ .vmem, ⟨1, _⟩ => ⟨S8192x1024, .bf16⟩
  | _, _ => ⟨S4096x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v34 : BitVec 32 := Scalar.muli v2 c8_i32_17
  let v35 : BitVec 32 := Scalar.addi c0_i32_18 v34
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_19 : BitVec 32 := 4#32
  let v36 : BitVec 32 := Scalar.muli v28 c4_i32_19
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v38 : BitVec 32 := Scalar.muli v8 c1_i32_20
  let v39 : BitVec 32 := Scalar.addi v37 v38
  v39.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v40 : BitVec 32 := Scalar.muli v2 c8_i32_22
  let v41 : BitVec 32 := Scalar.addi c0_i32_23 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v42 : BitVec 32 := Scalar.muli v5 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_25 : BitVec 32 := 1#32
  let v44 : BitVec 32 := Scalar.muli v31 c1_i32_25
  let v45 : BitVec 32 := Scalar.addi v43 v44
  v45.toNat
def k0_dev3 (d0 : Dev nD) : Nat :=
  let c0_i32_28 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_27 : BitVec 32 := 8#32
  let v46 : BitVec 32 := Scalar.muli v32 c8_i32_27
  let v47 : BitVec 32 := Scalar.addi c0_i32_28 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v48 : BitVec 32 := Scalar.muli v5 c4_i32_29
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v50 : BitVec 32 := Scalar.muli v8 c1_i32_30
  let v51 : BitVec 32 := Scalar.addi v49 v50
  v51.toNat
def k0_off1 (d0 : Dev nD) (c0_i32_34 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let c1024_i32 : BitVec 32 := 1024#32
  let v55 : BitVec 32 := Scalar.muli v20 c1024_i32
  let v56 : BitVec 32 := Scalar.addi v55 c0_i32_34
  let v57 : Index := Scalar.indexCast v56
  let c0 : Index := 0#32
  ![v57.toNat, 0]
def k0_off2 (d0 : Dev nD) (c0_i32_34 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let c1024_i32 : BitVec 32 := 1024#32
  let v55 : BitVec 32 := Scalar.muli v20 c1024_i32
  let v56 : BitVec 32 := Scalar.addi v55 c0_i32_34
  let v60 : BitVec 32 := Scalar.addi v52 v56
  let v61 : Index := Scalar.indexCast v60
  let c0_35 : Index := 0#32
  ![v61.toNat, 0]
def k0_off3 (d0 : Dev nD) (c0_i32_34 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let c1024_i32 : BitVec 32 := 1024#32
  let v55 : BitVec 32 := Scalar.muli v20 c1024_i32
  let v56 : BitVec 32 := Scalar.addi v55 c0_i32_34
  let v64 : BitVec 32 := Scalar.addi v52 v56
  let c0_i32_42 : BitVec 32 := 0#32
  ![v64.toNat, 0]
def k0_dev4 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v65 : BitVec 32 := Scalar.muli v2 c8_i32_38
  let v66 : BitVec 32 := Scalar.addi c0_i32_39 v65
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_40 : BitVec 32 := 4#32
  let v67 : BitVec 32 := Scalar.muli v28 c4_i32_40
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v69 : BitVec 32 := Scalar.muli v8 c1_i32_41
  let v70 : BitVec 32 := Scalar.addi v68 v69
  v70.toNat
def k0_dev5 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v87 : BitVec 32 := Scalar.muli v2 c8_i32_49
  let v88 : BitVec 32 := Scalar.addi c0_i32_50 v87
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_51 : BitVec 32 := 4#32
  let v89 : BitVec 32 := Scalar.muli v28 c4_i32_51
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v91 : BitVec 32 := Scalar.muli v8 c1_i32_52
  let v92 : BitVec 32 := Scalar.addi v90 v91
  v92.toNat
def k0_dev6 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v109 : BitVec 32 := Scalar.muli v2 c8_i32_60
  let v110 : BitVec 32 := Scalar.addi c0_i32_61 v109
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_62 : BitVec 32 := 4#32
  let v111 : BitVec 32 := Scalar.muli v28 c4_i32_62
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v113 : BitVec 32 := Scalar.muli v8 c1_i32_63
  let v114 : BitVec 32 := Scalar.addi v112 v113
  v114.toNat
def k0_dev7 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v131 : BitVec 32 := Scalar.muli v2 c8_i32_71
  let v132 : BitVec 32 := Scalar.addi c0_i32_72 v131
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_73 : BitVec 32 := 4#32
  let v133 : BitVec 32 := Scalar.muli v28 c4_i32_73
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v135 : BitVec 32 := Scalar.muli v8 c1_i32_74
  let v136 : BitVec 32 := Scalar.addi v134 v135
  v136.toNat
def k0_dev8 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v153 : BitVec 32 := Scalar.muli v2 c8_i32_82
  let v154 : BitVec 32 := Scalar.addi c0_i32_83 v153
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_84 : BitVec 32 := 4#32
  let v155 : BitVec 32 := Scalar.muli v28 c4_i32_84
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v157 : BitVec 32 := Scalar.muli v8 c1_i32_85
  let v158 : BitVec 32 := Scalar.addi v156 v157
  v158.toNat
def k0_dev9 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v175 : BitVec 32 := Scalar.muli v2 c8_i32_92
  let v176 : BitVec 32 := Scalar.addi c0_i32_93 v175
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_94 : BitVec 32 := 4#32
  let v177 : BitVec 32 := Scalar.muli v28 c4_i32_94
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v179 : BitVec 32 := Scalar.muli v8 c1_i32_95
  let v180 : BitVec 32 := Scalar.addi v178 v179
  v180.toNat
def k0_dev10 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v197 : BitVec 32 := Scalar.muli v2 c8_i32_102
  let v198 : BitVec 32 := Scalar.addi c0_i32_103 v197
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_104 : BitVec 32 := 4#32
  let v199 : BitVec 32 := Scalar.muli v28 c4_i32_104
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v201 : BitVec 32 := Scalar.muli v8 c1_i32_105
  let v202 : BitVec 32 := Scalar.addi v200 v201
  v202.toNat
def k0_dev11 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v219 : BitVec 32 := Scalar.muli v2 c8_i32_112
  let v220 : BitVec 32 := Scalar.addi c0_i32_113 v219
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_114 : BitVec 32 := 4#32
  let v221 : BitVec 32 := Scalar.muli v28 c4_i32_114
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v223 : BitVec 32 := Scalar.muli v8 c1_i32_115
  let v224 : BitVec 32 := Scalar.addi v222 v223
  v224.toNat
def k0_off4 (d0 : Dev nD) : Fin 2 → Nat :=
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_118 : BitVec 32 := 1024#32
  let v231 : BitVec 32 := Scalar.muli v21 c1024_i32_118
  let c0_i32_119 : BitVec 32 := 0#32
  let v232 : BitVec 32 := Scalar.addi v231 c0_i32_119
  let v233 : Index := Scalar.indexCast v232
  let c0_120 : Index := 0#32
  ![v233.toNat, 0]
def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_118 : BitVec 32 := 1024#32
  let v231 : BitVec 32 := Scalar.muli v21 c1024_i32_118
  let c0_i32_119 : BitVec 32 := 0#32
  let v232 : BitVec 32 := Scalar.addi v231 c0_i32_119
  let v236 : BitVec 32 := Scalar.addi v52 v232
  let v237 : Index := Scalar.indexCast v236
  let c0_121 : Index := 0#32
  ![v237.toNat, 0]
def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_118 : BitVec 32 := 1024#32
  let v231 : BitVec 32 := Scalar.muli v21 c1024_i32_118
  let c0_i32_119 : BitVec 32 := 0#32
  let v232 : BitVec 32 := Scalar.addi v231 c0_i32_119
  let v240 : BitVec 32 := Scalar.addi v52 v232
  let c0_i32_128 : BitVec 32 := 0#32
  ![v240.toNat, 0]
def k0_dev12 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v241 : BitVec 32 := Scalar.muli v2 c8_i32_124
  let v242 : BitVec 32 := Scalar.addi c0_i32_125 v241
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_12 v5
  let c4_i32_126 : BitVec 32 := 4#32
  let v243 : BitVec 32 := Scalar.muli v28 c4_i32_126
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v245 : BitVec 32 := Scalar.muli v8 c1_i32_127
  let v246 : BitVec 32 := Scalar.addi v244 v245
  v246.toNat
def k0_off7 (d0 : Dev nD) (c0_i32_140 : BitVec 32) : Fin 2 → Nat :=
  let c1_i32_32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_32 v5
  let c4096_i32_33 : BitVec 32 := 4096#32
  let v54 : BitVec 32 := Scalar.muli v53 c4096_i32_33
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let c1024_i32_139 : BitVec 32 := 1024#32
  let v264 : BitVec 32 := Scalar.muli v20 c1024_i32_139
  let v265 : BitVec 32 := Scalar.addi v54 v264
  let v266 : BitVec 32 := Scalar.addi v265 c0_i32_140
  let c0_i32_155 : BitVec 32 := 0#32
  ![v266.toNat, 0]
def k0_dev13 (d0 : Dev nD) : Nat :=
  let c0_i32_152 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_151 : BitVec 32 := 8#32
  let v277 : BitVec 32 := Scalar.muli v2 c8_i32_151
  let v278 : BitVec 32 := Scalar.addi c0_i32_152 v277
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v279 : BitVec 32 := Scalar.muli v5 c4_i32_153
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_154 : BitVec 32 := 1#32
  let v281 : BitVec 32 := Scalar.muli v31 c1_i32_154
  let v282 : BitVec 32 := Scalar.addi v280 v281
  v282.toNat
def k0_dev14 (d0 : Dev nD) : Nat :=
  let c0_i32_160 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_159 : BitVec 32 := 8#32
  let v289 : BitVec 32 := Scalar.muli v32 c8_i32_159
  let v290 : BitVec 32 := Scalar.addi c0_i32_160 v289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_161 : BitVec 32 := 4#32
  let v291 : BitVec 32 := Scalar.muli v5 c4_i32_161
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v293 : BitVec 32 := Scalar.muli v8 c1_i32_162
  let v294 : BitVec 32 := Scalar.addi v292 v293
  v294.toNat
def k0_off8 (d0 : Dev nD) : Fin 2 → Nat :=
  let c2_i32_8 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.subi c1_i32_9 v18
  let v24 : BitVec 32 := Scalar.addi v22 v23
  let c1024_i32_130 : BitVec 32 := 1024#32
  let v253 : BitVec 32 := Scalar.muli v24 c1024_i32_130
  let v301 : Index := Scalar.indexCast v253
  let c0_165 : Index := 0#32
  ![v301.toNat, 0]
def k0_off9 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c2_i32_8 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.subi c1_i32_9 v18
  let v24 : BitVec 32 := Scalar.addi v22 v23
  let c1024_i32_130 : BitVec 32 := 1024#32
  let v253 : BitVec 32 := Scalar.muli v24 c1024_i32_130
  let v304 : BitVec 32 := Scalar.addi v52 v253
  let v305 : Index := Scalar.indexCast v304
  let c0_166 : Index := 0#32
  ![v305.toNat, 0]
def k0_dev15 (d0 : Dev nD) : Nat :=
  let c0_i32_180 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_179 : BitVec 32 := 8#32
  let v320 : BitVec 32 := Scalar.muli v2 c8_i32_179
  let v321 : BitVec 32 := Scalar.addi c0_i32_180 v320
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_181 : BitVec 32 := 4#32
  let v322 : BitVec 32 := Scalar.muli v5 c4_i32_181
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_182 : BitVec 32 := 1#32
  let v324 : BitVec 32 := Scalar.muli v31 c1_i32_182
  let v325 : BitVec 32 := Scalar.addi v323 v324
  v325.toNat
def k0_dev16 (d0 : Dev nD) : Nat :=
  let c0_i32_188 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_187 : BitVec 32 := 8#32
  let v332 : BitVec 32 := Scalar.muli v32 c8_i32_187
  let v333 : BitVec 32 := Scalar.addi c0_i32_188 v332
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_189 : BitVec 32 := 4#32
  let v334 : BitVec 32 := Scalar.muli v5 c4_i32_189
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v336 : BitVec 32 := Scalar.muli v8 c1_i32_190
  let v337 : BitVec 32 := Scalar.addi v335 v336
  v337.toNat
def k0_off10 (d0 : Dev nD) : Fin 2 → Nat :=
  let c2_i32_8 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.subi c1_i32_9 v18
  let v24 : BitVec 32 := Scalar.addi v22 v23
  let c1024_i32_131 : BitVec 32 := 1024#32
  let v254 : BitVec 32 := Scalar.muli v24 c1024_i32_131
  let c512_i32_132 : BitVec 32 := 512#32
  let v255 : BitVec 32 := Scalar.addi v254 c512_i32_132
  let v344 : Index := Scalar.indexCast v255
  let c0_193 : Index := 0#32
  ![v344.toNat, 0]
def k0_off11 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c2_i32_8 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.subi c1_i32_9 v18
  let v24 : BitVec 32 := Scalar.addi v22 v23
  let c1024_i32_131 : BitVec 32 := 1024#32
  let v254 : BitVec 32 := Scalar.muli v24 c1024_i32_131
  let c512_i32_132 : BitVec 32 := 512#32
  let v255 : BitVec 32 := Scalar.addi v254 c512_i32_132
  let v347 : BitVec 32 := Scalar.addi v52 v255
  let v348 : Index := Scalar.indexCast v347
  let c0_194 : Index := 0#32
  ![v348.toNat, 0]
def k0_dev17 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v363 : BitVec 32 := Scalar.muli v2 c8_i32_207
  let v364 : BitVec 32 := Scalar.addi c0_i32_208 v363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_209 : BitVec 32 := 4#32
  let v365 : BitVec 32 := Scalar.muli v5 c4_i32_209
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_210 : BitVec 32 := 1#32
  let v367 : BitVec 32 := Scalar.muli v31 c1_i32_210
  let v368 : BitVec 32 := Scalar.addi v366 v367
  v368.toNat
def k0_dev18 (d0 : Dev nD) : Nat :=
  let c0_i32_216 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_215 : BitVec 32 := 8#32
  let v375 : BitVec 32 := Scalar.muli v32 c8_i32_215
  let v376 : BitVec 32 := Scalar.addi c0_i32_216 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_217 : BitVec 32 := 4#32
  let v377 : BitVec 32 := Scalar.muli v5 c4_i32_217
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v379 : BitVec 32 := Scalar.muli v8 c1_i32_218
  let v380 : BitVec 32 := Scalar.addi v378 v379
  v380.toNat
def k0_off12 (d0 : Dev nD) : Fin 2 → Nat :=
  let c2_i32_11 : BitVec 32 := 2#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_10 v2
  let v26 : BitVec 32 := Scalar.muli c2_i32_11 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.addi v26 v18
  let c1024_i32_133 : BitVec 32 := 1024#32
  let v256 : BitVec 32 := Scalar.muli v27 c1024_i32_133
  let v387 : Index := Scalar.indexCast v256
  let c0_221 : Index := 0#32
  ![v387.toNat, 0]
def k0_off13 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c2_i32_11 : BitVec 32 := 2#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_10 v2
  let v26 : BitVec 32 := Scalar.muli c2_i32_11 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.addi v26 v18
  let c1024_i32_133 : BitVec 32 := 1024#32
  let v256 : BitVec 32 := Scalar.muli v27 c1024_i32_133
  let v390 : BitVec 32 := Scalar.addi v52 v256
  let v391 : Index := Scalar.indexCast v390
  let c0_222 : Index := 0#32
  ![v391.toNat, 0]
def k0_dev19 (d0 : Dev nD) : Nat :=
  let c0_i32_236 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_235 : BitVec 32 := 8#32
  let v406 : BitVec 32 := Scalar.muli v2 c8_i32_235
  let v407 : BitVec 32 := Scalar.addi c0_i32_236 v406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_237 : BitVec 32 := 4#32
  let v408 : BitVec 32 := Scalar.muli v5 c4_i32_237
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_238 : BitVec 32 := 1#32
  let v410 : BitVec 32 := Scalar.muli v31 c1_i32_238
  let v411 : BitVec 32 := Scalar.addi v409 v410
  v411.toNat
def k0_dev20 (d0 : Dev nD) : Nat :=
  let c0_i32_244 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_243 : BitVec 32 := 8#32
  let v418 : BitVec 32 := Scalar.muli v32 c8_i32_243
  let v419 : BitVec 32 := Scalar.addi c0_i32_244 v418
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_245 : BitVec 32 := 4#32
  let v420 : BitVec 32 := Scalar.muli v5 c4_i32_245
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v422 : BitVec 32 := Scalar.muli v8 c1_i32_246
  let v423 : BitVec 32 := Scalar.addi v421 v422
  v423.toNat
def k0_off14 (d0 : Dev nD) : Fin 2 → Nat :=
  let c2_i32_11 : BitVec 32 := 2#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_10 v2
  let v26 : BitVec 32 := Scalar.muli c2_i32_11 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.addi v26 v18
  let c1024_i32_134 : BitVec 32 := 1024#32
  let v257 : BitVec 32 := Scalar.muli v27 c1024_i32_134
  let c512_i32_135 : BitVec 32 := 512#32
  let v258 : BitVec 32 := Scalar.addi v257 c512_i32_135
  let v430 : Index := Scalar.indexCast v258
  let c0_249 : Index := 0#32
  ![v430.toNat, 0]
def k0_off15 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c2_i32_11 : BitVec 32 := 2#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_10 v2
  let v26 : BitVec 32 := Scalar.muli c2_i32_11 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.addi v26 v18
  let c1024_i32_134 : BitVec 32 := 1024#32
  let v257 : BitVec 32 := Scalar.muli v27 c1024_i32_134
  let c512_i32_135 : BitVec 32 := 512#32
  let v258 : BitVec 32 := Scalar.addi v257 c512_i32_135
  let v433 : BitVec 32 := Scalar.addi v52 v258
  let v434 : Index := Scalar.indexCast v433
  let c0_250 : Index := 0#32
  ![v434.toNat, 0]
def k0_dev21 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_263 : BitVec 32 := 8#32
  let v449 : BitVec 32 := Scalar.muli v2 c8_i32_263
  let v450 : BitVec 32 := Scalar.addi c0_i32_264 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_265 : BitVec 32 := 4#32
  let v451 : BitVec 32 := Scalar.muli v5 c4_i32_265
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_266 : BitVec 32 := 1#32
  let v453 : BitVec 32 := Scalar.muli v31 c1_i32_266
  let v454 : BitVec 32 := Scalar.addi v452 v453
  v454.toNat
def k0_dev22 (d0 : Dev nD) : Nat :=
  let c0_i32_272 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_271 : BitVec 32 := 8#32
  let v461 : BitVec 32 := Scalar.muli v32 c8_i32_271
  let v462 : BitVec 32 := Scalar.addi c0_i32_272 v461
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_273 : BitVec 32 := 4#32
  let v463 : BitVec 32 := Scalar.muli v5 c4_i32_273
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v465 : BitVec 32 := Scalar.muli v8 c1_i32_274
  let v466 : BitVec 32 := Scalar.addi v464 v465
  v466.toNat
def k0_off16 (d0 : Dev nD) : Fin 2 → Nat :=
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_136 : BitVec 32 := 1024#32
  let v259 : BitVec 32 := Scalar.muli v21 c1024_i32_136
  let c576_i32 : BitVec 32 := 576#32
  let v260 : BitVec 32 := Scalar.addi v259 c576_i32
  let v473 : Index := Scalar.indexCast v260
  let c0_277 : Index := 0#32
  ![v473.toNat, 0]
def k0_off17 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_136 : BitVec 32 := 1024#32
  let v259 : BitVec 32 := Scalar.muli v21 c1024_i32_136
  let c576_i32 : BitVec 32 := 576#32
  let v260 : BitVec 32 := Scalar.addi v259 c576_i32
  let v476 : BitVec 32 := Scalar.addi v52 v260
  let v477 : Index := Scalar.indexCast v476
  let c0_278 : Index := 0#32
  ![v477.toNat, 0]
def k0_dev23 (d0 : Dev nD) : Nat :=
  let c0_i32_292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_291 : BitVec 32 := 8#32
  let v492 : BitVec 32 := Scalar.muli v2 c8_i32_291
  let v493 : BitVec 32 := Scalar.addi c0_i32_292 v492
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_293 : BitVec 32 := 4#32
  let v494 : BitVec 32 := Scalar.muli v5 c4_i32_293
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_294 : BitVec 32 := 1#32
  let v496 : BitVec 32 := Scalar.muli v31 c1_i32_294
  let v497 : BitVec 32 := Scalar.addi v495 v496
  v497.toNat
def k0_dev24 (d0 : Dev nD) : Nat :=
  let c0_i32_300 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_299 : BitVec 32 := 8#32
  let v504 : BitVec 32 := Scalar.muli v32 c8_i32_299
  let v505 : BitVec 32 := Scalar.addi c0_i32_300 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v506 : BitVec 32 := Scalar.muli v5 c4_i32_301
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v508 : BitVec 32 := Scalar.muli v8 c1_i32_302
  let v509 : BitVec 32 := Scalar.addi v507 v508
  v509.toNat
def k0_off18 (d0 : Dev nD) : Fin 2 → Nat :=
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_137 : BitVec 32 := 1024#32
  let v261 : BitVec 32 := Scalar.muli v21 c1024_i32_137
  let c576_i32_138 : BitVec 32 := 576#32
  let v262 : BitVec 32 := Scalar.addi v261 c576_i32_138
  let c224_i32 : BitVec 32 := 224#32
  let v263 : BitVec 32 := Scalar.addi v262 c224_i32
  let v516 : Index := Scalar.indexCast v263
  let c0_305 : Index := 0#32
  ![v516.toNat, 0]
def k0_off19 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v52 : BitVec 32 := Scalar.muli v5 c4096_i32
  let c3_i32 : BitVec 32 := 3#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v19 v18
  let v21 : BitVec 32 := Scalar.subi c3_i32 v20
  let c1024_i32_137 : BitVec 32 := 1024#32
  let v261 : BitVec 32 := Scalar.muli v21 c1024_i32_137
  let c576_i32_138 : BitVec 32 := 576#32
  let v262 : BitVec 32 := Scalar.addi v261 c576_i32_138
  let c224_i32 : BitVec 32 := 224#32
  let v263 : BitVec 32 := Scalar.addi v262 c224_i32
  let v519 : BitVec 32 := Scalar.addi v52 v263
  let v520 : Index := Scalar.indexCast v519
  let c0_306 : Index := 0#32
  ![v520.toNat, 0]
def k0_dev25 (d0 : Dev nD) : Nat :=
  let c0_i32_320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_319 : BitVec 32 := 8#32
  let v535 : BitVec 32 := Scalar.muli v2 c8_i32_319
  let v536 : BitVec 32 := Scalar.addi c0_i32_320 v535
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321 : BitVec 32 := 4#32
  let v537 : BitVec 32 := Scalar.muli v5 c4_i32_321
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_322 : BitVec 32 := 1#32
  let v539 : BitVec 32 := Scalar.muli v31 c1_i32_322
  let v540 : BitVec 32 := Scalar.addi v538 v539
  v540.toNat
def k0_dev26 (d0 : Dev nD) : Nat :=
  let c0_i32_328 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_327 : BitVec 32 := 8#32
  let v547 : BitVec 32 := Scalar.muli v32 c8_i32_327
  let v548 : BitVec 32 := Scalar.addi c0_i32_328 v547
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_329 : BitVec 32 := 4#32
  let v549 : BitVec 32 := Scalar.muli v5 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_dev27 (d0 : Dev nD) : Nat :=
  let c0_i32_346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_345 : BitVec 32 := 8#32
  let v572 : BitVec 32 := Scalar.muli v2 c8_i32_345
  let v573 : BitVec 32 := Scalar.addi c0_i32_346 v572
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v574 : BitVec 32 := Scalar.muli v5 c4_i32_347
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_348 : BitVec 32 := 1#32
  let v576 : BitVec 32 := Scalar.muli v31 c1_i32_348
  let v577 : BitVec 32 := Scalar.addi v575 v576
  v577.toNat
def k0_dev28 (d0 : Dev nD) : Nat :=
  let c0_i32_354 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_353 : BitVec 32 := 8#32
  let v584 : BitVec 32 := Scalar.muli v32 c8_i32_353
  let v585 : BitVec 32 := Scalar.addi c0_i32_354 v584
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_355 : BitVec 32 := 4#32
  let v586 : BitVec 32 := Scalar.muli v5 c4_i32_355
  let v587 : BitVec 32 := Scalar.addi v585 v586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v588 : BitVec 32 := Scalar.muli v8 c1_i32_356
  let v589 : BitVec 32 := Scalar.addi v587 v588
  v589.toNat
def k0_off20 (d0 : Dev nD) : Fin 2 → Nat :=
  let c1_i32_32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_32 v5
  let c4096_i32_33 : BitVec 32 := 4096#32
  let v54 : BitVec 32 := Scalar.muli v53 c4096_i32_33
  let c2_i32_11 : BitVec 32 := 2#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_10 v2
  let v26 : BitVec 32 := Scalar.muli c2_i32_11 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.addi v26 v18
  let c1024_i32_383 : BitVec 32 := 1024#32
  let v626 : BitVec 32 := Scalar.muli v27 c1024_i32_383
  let v627 : BitVec 32 := Scalar.addi v54 v626
  let c576_i32_384 : BitVec 32 := 576#32
  let v628 : BitVec 32 := Scalar.addi v627 c576_i32_384
  let c0_i32_391 : BitVec 32 := 0#32
  ![v628.toNat, 0]
def k0_dev29 (d0 : Dev nD) : Nat :=
  let c0_i32_388 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_387 : BitVec 32 := 8#32
  let v629 : BitVec 32 := Scalar.muli v2 c8_i32_387
  let v630 : BitVec 32 := Scalar.addi c0_i32_388 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_389 : BitVec 32 := 4#32
  let v631 : BitVec 32 := Scalar.muli v5 c4_i32_389
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.addi v8 c1_i32_13
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.muli c2_i32_14 v18
  let v31 : BitVec 32 := Scalar.subi v29 v30
  let c1_i32_390 : BitVec 32 := 1#32
  let v633 : BitVec 32 := Scalar.muli v31 c1_i32_390
  let v634 : BitVec 32 := Scalar.addi v632 v633
  v634.toNat
def k0_off21 (d0 : Dev nD) : Fin 2 → Nat :=
  let c1_i32_32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_32 v5
  let c4096_i32_33 : BitVec 32 := 4096#32
  let v54 : BitVec 32 := Scalar.muli v53 c4096_i32_33
  let c2_i32_8 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_8 v2
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.subi c1_i32_9 v18
  let v24 : BitVec 32 := Scalar.addi v22 v23
  let c1024_i32_409 : BitVec 32 := 1024#32
  let v661 : BitVec 32 := Scalar.muli v24 c1024_i32_409
  let v662 : BitVec 32 := Scalar.addi v54 v661
  let c800_i32 : BitVec 32 := 800#32
  let v663 : BitVec 32 := Scalar.addi v662 c800_i32
  let c0_i32_416 : BitVec 32 := 0#32
  ![v663.toNat, 0]
def k0_dev30 (d0 : Dev nD) : Nat :=
  let c0_i32_413 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_15 v2
  let c8_i32_412 : BitVec 32 := 8#32
  let v664 : BitVec 32 := Scalar.muli v32 c8_i32_412
  let v665 : BitVec 32 := Scalar.addi c0_i32_413 v664
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v666 : BitVec 32 := Scalar.muli v5 c4_i32_414
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v668 : BitVec 32 := Scalar.muli v8 c1_i32_415
  let v669 : BitVec 32 := Scalar.addi v667 v668
  v669.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The devices, the row ranges and the printed index chains of the kernel.

A device of the 2 x 2 x 4 mesh (axes x, y, z) has the id `8 x + 4 y + z`. It talks with three neighbours: across y,
across the parity of z, and across x. The result has eight blocks of 1024 rows; four of them are the device's own
half and four the other half, and in each half the four quarters play four roles: `0` the quarter it fetches across
y itself, `1` the quarter cut into three parts (one fetched across each axis), `2` the quarter that reaches it across
z, `3` the quarter that reaches it across x.
-/
module

public import proofs.«01_k».proof.Proof.Gen.KernelIdeal
public import proofs.«01_k».proof.Proof.Gen.KernelIdeal.Skeleton

@[expose] public section

namespace Cert.KernelProof

open Cert.KernelIdeal Cert.KernelIdeal.Gen
open Idealize.ShloMosaic Idealize.ShloMosaic.TcCoe

/-! ## Devices -/

set_option backward.proofsInPublic true in
/-- The neighbour along axis `a`: `0` is y, `1` the pair in z, `2` is x. -/
def nb (a : Fin 3) (c : Dev nD) : Dev nD :=
  ⟨(match a with | 0 => c.val ^^^ 4 | 1 => c.val ^^^ 1 | 2 => c.val ^^^ 8) % 16, Nat.mod_lt _ (by decide)⟩

/-- Every axis pairs the devices up. -/
theorem nb_nb : ∀ (a : Fin 3) (c : Dev nD), nb a (nb a c) = c := by decide +kernel

/-- The pairing as an equivalence. -/
def pair (a : Fin 3) : Dev nD ≃ Dev nD := ⟨nb a, nb a, nb_nb a, nb_nb a⟩

/-- The quarter of a half that has role `r` on device `c`. -/
def quarter (c : Dev nD) (r : Fin 4) : Nat :=
  let q := 2 * (c.val / 8) + c.val % 2
  match r with
  | 0 => q
  | 1 => 3 - q
  | 2 => 2 * (c.val / 8) + (1 - c.val % 2)
  | 3 => 2 * (1 - c.val / 8) + c.val % 2

/-- The half of the result a device holds of itself, or the other half. -/
def half (c : Dev nD) (own : Bool) : Nat := if own then c.val / 4 % 2 else 1 - c.val / 4 % 2

/-- The block of 1024 rows with role `r` in the device's own or other half. -/
def blk (c : Dev nD) (own : Bool) (r : Fin 4) : Nat := 4 * half c own + quarter c r

/-- There are eight blocks. -/
theorem blk_lt : ∀ c own r, blk c own r < 8 := by decide +kernel

/-- The eight roles are the eight blocks. -/
theorem blk_bij : ∀ c : Dev nD, ∀ g : Fin 8, ∃ own r, blk c own r = g.val := by decide +kernel
/-- Different roles are different blocks. -/
theorem blk_inj : ∀ (c : Dev nD) (own own' : Bool) (r r' : Fin 4), blk c own r = blk c own' r' → (own, r) = (own', r') := by
  decide +kernel

/-! ## Row ranges -/

/-- A range of `n` rows starting `lo` rows into one block, the block named by its half and its role. -/
structure Piece where
  own : Bool
  role : Fin 4
  lo : Nat
  n : Nat
deriving DecidableEq

/-- The first row of a piece on device `c`. -/
def Piece.row (c : Dev nD) (p : Piece) : Nat := 1024 * blk c p.own p.role + p.lo

/-- What transfer `k` along axis `a` reads on its sender. -/
def src (a : Fin 3) (k : Fin 9) : Piece :=
  if k = 8 then
    match a with
    | 0 => ⟨true, 1, 0, 576⟩
    | 1 => ⟨false, 3, 576, 224⟩
    | 2 => ⟨false, 2, 800, 224⟩
  else ⟨match a with | 0 => true | 1 => false | 2 => false, 0, 128 * k.val, 128⟩

/-- Where transfer `k` along axis `a` lands, as its receiver names it. -/
def land (a : Fin 3) (k : Fin 9) : Piece :=
  if k = 8 then
    match a with
    | 0 => ⟨false, 1, 0, 576⟩
    | 1 => ⟨false, 1, 576, 224⟩
    | 2 => ⟨false, 1, 800, 224⟩
  else ⟨false, match a with | 0 => 0 | 1 => 2 | 2 => 3, 128 * k.val, 128⟩

/-- A transfer lands in the rows it was read from. -/
theorem row_land : ∀ (a : Fin 3) (k : Fin 9) (c : Dev nD), (land a k).row (nb a c) = (src a k).row c := by decide +kernel
/-- It lands in as many rows, -/
theorem n_land : ∀ (a : Fin 3) (k : Fin 9), (land a k).n = (src a k).n := by decide +kernel
/-- in the block it was read from, -/
theorem blk_land : ∀ (a : Fin 3) (k : Fin 9) (c : Dev nD),
    blk (nb a c) (land a k).own (land a k).role = blk c (src a k).own (src a k).role := by decide +kernel
/-- at the same place in the block. -/
theorem lo_land : ∀ (a : Fin 3) (k : Fin 9), (land a k).lo = (src a k).lo := by decide +kernel
/-- A transfer stays inside one block. -/
theorem src_in : ∀ (a : Fin 3) (k : Fin 9), (src a k).lo + (src a k).n ≤ 1024 := by decide +kernel
/-- No transfer is empty. -/
theorem n_pos : ∀ (a : Fin 3) (k : Fin 9), 0 < (src a k).n := by decide +kernel

/-- A piece inside its block is inside the result. -/
theorem Piece.row_le (c : Dev nD) {p : Piece} (h : p.lo + p.n ≤ 1024) : p.row c + p.n ≤ 8192 := by
  have := blk_lt c p.own p.role
  unfold Piece.row; omega

/-! ## Where a row comes from -/

/-- The device whose shard a row of block `g` has on device `c`; `hi` says the row is at or beyond row 576 of its block. -/
def owner (c : Dev nD) (g : Nat) (hi : Bool) : Dev nD :=
  if g / 4 = half c true then c
  else if g % 4 = quarter c 0 then nb 0 c
  else if g % 4 = quarter c 2 then nb 0 (nb 1 c)
  else if g % 4 = quarter c 3 then nb 0 (nb 2 c)
  else if hi then nb 0 (nb 1 (nb 2 c)) else nb 0 c

/-- The sender and the receiver of a transfer agree on where its rows come from. -/
theorem owner_land : ∀ (a : Fin 3) (k : Fin 9) (c : Dev nD) (hi : Bool), (k = 8 → hi = decide (a ≠ 0)) →
    owner (nb a c) (blk c (src a k).own (src a k).role) hi = owner c (blk c (src a k).own (src a k).role) hi := by
  decide +kernel
/-- A row of the device's own half comes from itself. -/
theorem owner_own : ∀ (c : Dev nD) (r : Fin 4) (hi : Bool), owner c (blk c true r) hi = c := by decide +kernel
/-- A row of half `y` comes from a device of half `y`. -/
theorem owner_half : ∀ (c : Dev nD) (g : Fin 8) (hi : Bool), (owner c g.val hi).val / 4 % 2 = g.val / 4 := by decide +kernel

/-- The third parts of the cut quarter lie beyond row 576, the first before it. -/
theorem src_hi : ∀ (a : Fin 3), if a = 0 then (src a 8).lo + (src a 8).n ≤ 576 else 576 ≤ (src a 8).lo := by decide

/-! ## The printed index chains -/

/-- The pieces the body writes itself: eight chunks, the first part of the cut quarter, the rest. -/
def chunk (k : Fin 8) : Piece := ⟨true, 0, 128 * k.val, 128⟩

/-- The rows of the shard that chunk `k` is copied from, -/
theorem off1_eq : ∀ (c : Dev nD) (k : Fin 8), k0_off1 c (BitVec.ofNat 32 (128 * k.val)) = ![(chunk k).row c % 4096, 0] := by decide +kernel
/-- those of the result it is copied to, -/
theorem off2_eq : ∀ (c : Dev nD) (k : Fin 8), k0_off2 c (BitVec.ofNat 32 (128 * k.val)) = ![(chunk k).row c, 0] := by decide +kernel
/-- and those it is sent from. -/
theorem off3_eq : ∀ (c : Dev nD) (k : Fin 8), k0_off3 c (BitVec.ofNat 32 (128 * k.val)) = ![(chunk k).row c, 0] := by decide +kernel
/-- The same for the first part of the cut quarter: the rows of the shard, -/
theorem off4_eq : ∀ c : Dev nD, k0_off4 c = ![(⟨true, 1, 0, 576⟩ : Piece).row c % 4096, 0] := by decide +kernel
/-- those it is copied to, -/
theorem off5_eq : ∀ c : Dev nD, k0_off5 c = ![(⟨true, 1, 0, 576⟩ : Piece).row c, 0] := by decide +kernel
/-- and those it is sent from. -/
theorem off6_eq : ∀ c : Dev nD, k0_off6 c = ![(⟨true, 1, 0, 576⟩ : Piece).row c, 0] := by decide +kernel
/-- The rows of a chunk that is passed on. -/
theorem off7_eq : ∀ (c : Dev nD) (k : Fin 8), k0_off7 c (BitVec.ofNat 32 (128 * k.val)) = ![(⟨false, 0, 128 * k.val, 128⟩ : Piece).row c, 0] := by decide +kernel
/-- The other copies, each from rows of the shard to rows of the result: role 2, first half, -/
theorem off8_eq : ∀ c : Dev nD, k0_off8 c = ![(⟨true, 2, 0, 512⟩ : Piece).row c % 4096, 0] := by decide +kernel
/-- to the result; -/
theorem off9_eq : ∀ c : Dev nD, k0_off9 c = ![(⟨true, 2, 0, 512⟩ : Piece).row c, 0] := by decide +kernel
/-- role 2, second half, -/
theorem off10_eq : ∀ c : Dev nD, k0_off10 c = ![(⟨true, 2, 512, 512⟩ : Piece).row c % 4096, 0] := by decide +kernel
/-- to the result; -/
theorem off11_eq : ∀ c : Dev nD, k0_off11 c = ![(⟨true, 2, 512, 512⟩ : Piece).row c, 0] := by decide +kernel
/-- role 3, first half, -/
theorem off12_eq : ∀ c : Dev nD, k0_off12 c = ![(⟨true, 3, 0, 512⟩ : Piece).row c % 4096, 0] := by decide +kernel
/-- to the result; -/
theorem off13_eq : ∀ c : Dev nD, k0_off13 c = ![(⟨true, 3, 0, 512⟩ : Piece).row c, 0] := by decide +kernel
/-- role 3, second half, -/
theorem off14_eq : ∀ c : Dev nD, k0_off14 c = ![(⟨true, 3, 512, 512⟩ : Piece).row c % 4096, 0] := by decide +kernel
/-- to the result; -/
theorem off15_eq : ∀ c : Dev nD, k0_off15 c = ![(⟨true, 3, 512, 512⟩ : Piece).row c, 0] := by decide +kernel
/-- second part of the cut quarter, -/
theorem off16_eq : ∀ c : Dev nD, k0_off16 c = ![(⟨true, 1, 576, 224⟩ : Piece).row c % 4096, 0] := by decide +kernel
/-- to the result; -/
theorem off17_eq : ∀ c : Dev nD, k0_off17 c = ![(⟨true, 1, 576, 224⟩ : Piece).row c, 0] := by decide +kernel
/-- third part of the cut quarter, -/
theorem off18_eq : ∀ c : Dev nD, k0_off18 c = ![(⟨true, 1, 800, 224⟩ : Piece).row c % 4096, 0] := by decide +kernel
/-- to the result. -/
theorem off19_eq : ∀ c : Dev nD, k0_off19 c = ![(⟨true, 1, 800, 224⟩ : Piece).row c, 0] := by decide +kernel
/-- The rows of the part sent across the parity of z, -/
theorem off20_eq : ∀ c : Dev nD, k0_off20 c = ![(⟨false, 3, 576, 224⟩ : Piece).row c, 0] := by decide +kernel
/-- and across x. -/
theorem off21_eq : ∀ c : Dev nD, k0_off21 c = ![(⟨false, 2, 800, 224⟩ : Piece).row c, 0] := by decide +kernel

end Cert.KernelProof

end
-- ==== Proof.Plan.lean ====
/-
The body as a list of steps over a list of named resources.

What a device holds while it runs is a list of names (`Res`): pieces of its result, duty tokens, positions, credits.
Every operation of the body takes some names from the list and puts others in their place (`Step.need`,
`Step.give`), and pays one of the units the device owes (`Step.pays`). The whole body is the list `plan`; that no step
ever misses what it needs is one computation on names (`plan_runs`).
-/
module

public import proofs.«01_k».proof.Proof.Mesh

@[expose] public section

namespace Cert.KernelProof

open Cert.KernelIdeal Cert.KernelIdeal.Gen
open Idealize.ShloMosaic

/-- A device's semaphore cells the kernel uses: the runtime's barrier (`none`), and the DMA cells, `(true, a, k)` the
    receive cell and `(false, a, k)` the send cell of transfer `k` along axis `a`. -/
abbrev Cell : Type := Option (Bool × Fin 3 × Fin 9)

/-- How a piece of the result is held: at any contents, at its final contents, or either half share of the latter. -/
inductive Kind | junk | full | left | right
deriving DecidableEq

/-- The names of what a device holds. -/
inductive Res
  /-- The right to signal the barrier of the neighbour along axis `a`. -/
  | barTok (a : Fin 3)
  /-- The right to issue transfer `k` along axis `a`. -/
  | tok (a : Fin 3) (k : Fin 9)
  /-- The position at the start of a cell's only round. -/
  | pos (g : Cell)
  /-- The counter of a cell, back at zero. -/
  | zero (g : Cell)
  /-- The credit for a cell's round. -/
  | cred (g : Cell)
  /-- A piece of the device's own result. -/
  | mem (kd : Kind) (p : Piece)
  /-- The rows on the neighbour along axis `a` where transfer `k` lands. -/
  | landing (a : Fin 3) (k : Fin 9)
  /-- The device's shard. -/
  | x
deriving DecidableEq

/-- What a device owes: a unit to a neighbour's barrier, or a transfer's credit to a neighbour's receive cell. -/
inductive Due
  | bar (a : Fin 3)
  | recv (a : Fin 3) (k : Fin 9)
deriving DecidableEq

/-- The steps of the body. The last four only rename what is held. -/
inductive Step
  | signal (a : Fin 3)
  | barrier
  | store (p : Piece)
  | send (a : Fin 3) (k : Fin 9)
  | sent (a : Fin 3) (k : Fin 9)
  | recv (a : Fin 3) (k : Fin 9)
  | fork (p : Piece)
  | unfork (p : Piece)
  | cut (p : Piece) (n : Nat)
  | glue (p : Piece) (n : Nat)
deriving DecidableEq

/-- The first `n` rows of a piece. -/
def Piece.fst (p : Piece) (n : Nat) : Piece := { p with n := n }
/-- The rest. -/
def Piece.snd (p : Piece) (n : Nat) : Piece := { p with lo := p.lo + n, n := p.n - n }

/-- The transfers of an axis. -/
def slots : List (Fin 9) := List.finRange 9
/-- The axes. -/
def axes : List (Fin 3) := List.finRange 3

/-- The share transfer `k` along axis `a` is read with. -/
def kindOf (a : Fin 3) (k : Fin 9) : Kind :=
  if k = 8 then .full else match a with | 0 => .full | 1 => .left | 2 => .right

/-- The resources a step takes. -/
def Step.need : Step → List Res
  | .signal a => .barTok a :: slots.map fun k => .mem .junk (land a k)
  | .barrier => [.cred none, .pos none]
  | .store p => [.x, .mem .junk p]
  | .send a k => [.tok a k, .landing a k, .mem (kindOf a k) (src a k)]
  | .sent a k => [.cred (some (false, a, k)), .pos (some (false, a, k))]
  | .recv a k => [.cred (some (true, a, k)), .pos (some (true, a, k))]
  | .fork p => [.mem .full p]
  | .unfork p => [.mem .left p, .mem .right p]
  | .cut p _ => [.mem .full p]
  | .glue p n => [.mem .full (p.fst n), .mem .full (p.snd n)]

/-- The resources a step gives. -/
def Step.give : Step → List Res
  | .signal _ => []
  | .barrier => .zero none :: axes.flatMap fun a => slots.map fun k => .landing a k
  | .store p => [.x, .mem .full p]
  | .send a k => [.cred (some (false, a, k))]
  | .sent a k => [.zero (some (false, a, k)), .mem (kindOf a k) (src a k)]
  | .recv a k => [.zero (some (true, a, k)), .mem .full (land a k)]
  | .fork p => [.mem .left p, .mem .right p]
  | .unfork p => [.mem .full p]
  | .cut p n => [.mem .full (p.fst n), .mem .full (p.snd n)]
  | .glue p _ => [.mem .full p]

/-- The units a step pays. -/
def Step.pays : Step → List Due
  | .signal a => [.bar a]
  | .send a k => [.recv a k]
  | _ => []

/-- Levels, ordered as the devices can wait: a device waits at a cell only while it owes cells of higher levels. -/
def level : Cell → Nat
  | none => 1
  | some (false, _, _) => 0
  | some (true, a, k) => if a = 0 then 2 else if k = 8 then (if a = 1 then 4 else 5) else 3

/-- The cell, on the neighbour, that is owed. -/
def Due.cell : Due → Cell
  | .bar _ => none
  | .recv a k => some (true, a, k)

/-- The cell a step waits at, if it waits. -/
def Step.waits : Step → Option Cell
  | .barrier => some none
  | .sent a k => some (some (false, a, k))
  | .recv a k => some (some (true, a, k))
  | _ => none

/-- What a step requires besides: a piece it writes lies in a block of its own half, a piece is cut inside itself, and
    what is owed at a wait lies above the cell waited at. -/
def Step.ok (e : Step) (D : List Due) : Bool :=
  (match e with
    | .store p => p.own && decide (p.lo + p.n ≤ 1024)
    | .cut p n => decide (n ≤ p.n)
    | .glue p n => decide (n ≤ p.n)
    | _ => true)
  && (match e.waits with
    | some g => D.all fun d => decide (level g < level d.cell)
    | none => true)

/-- The resources held and the units owed. -/
abbrev St : Type := List Res × List Due

/-- The list without the given elements, if it has them all. -/
def take {α : Type} [DecidableEq α] : List α → List α → Option (List α)
  | [], l => some l
  | x :: xs, l => if x ∈ l then take xs (l.erase x) else none

/-- One step. -/
def Step.next (e : Step) (s : St) : Option St :=
  if e.ok s.2 then
    match take e.need s.1, take e.pays s.2 with
    | some R, some D => some (e.give ++ R, D)
    | _, _ => none
  else none

/-- The steps in order. -/
def run : List Step → St → Option St
  | [], s => some s
  | e :: l, s => (e.next s).bind (run l)

/-- Taking resources out of a list leaves the others. -/
theorem take_perm {α : Type} [DecidableEq α] : ∀ {xs l l' : List α}, take xs l = some l' → l.Perm (xs ++ l')
  | [], l, l', h => by cases h; exact List.Perm.refl _
  | x :: xs, l, l', h => by
    unfold take at h
    split at h
    · next hx => exact (List.perm_cons_erase hx).trans ((take_perm h).cons x)
    · cases h

/-! ## The plan -/

/-- Each chunk of role 0 written and sent across y, then the first part of the cut quarter. -/
def openY : List Step :=
  ((List.finRange 8).flatMap fun k => [.store (chunk k), .send 0 k.castSucc])
    ++ [.store ⟨true, 1, 0, 576⟩, .send 0 8]

/-- Chunk `k` from across y passed on across z and across x. -/
def relay (k : Fin 9) : List Step := [.recv 0 k, .fork (land 0 k), .send 1 k, .send 2 k]

/-- The eight relays, the device's other quarters written in between. -/
def relays : List Step :=
  relay 0 ++ [.store ⟨true, 2, 0, 512⟩] ++ relay 1 ++ [.store ⟨true, 2, 512, 512⟩]
    ++ relay 2 ++ [.store ⟨true, 3, 0, 512⟩] ++ relay 3 ++ [.store ⟨true, 3, 512, 512⟩]
    ++ relay 4 ++ [.store ⟨true, 1, 576, 224⟩] ++ relay 5 ++ [.store ⟨true, 1, 800, 224⟩]
    ++ relay 6 ++ relay 7

/-- The third parts of the cut quarter: their rows regrouped from what has landed, and sent. -/
def thirds : List Step :=
  [.recv 2 4, .recv 2 5, .recv 2 6,
    .cut (land 2 4) 64, .cut (land 2 6) 32,
    .glue ⟨false, 3, 576, 192⟩ 64, .glue ⟨false, 3, 576, 224⟩ 192,
    .send 1 8,
    .recv 1 6, .recv 1 7,
    .cut (land 1 6) 32, .glue ⟨false, 2, 800, 224⟩ 96,
    .send 2 8]

/-- The waits that are left; `seen` says which receives are already done. -/
def drain (a : Fin 3) (seen : List (Fin 9)) : List Step :=
  slots.flatMap fun k => .sent a k :: if k ∈ seen then [] else [.recv a k]

/-- What the body ends with: every wait that is left, and the shares put together again. -/
def closing : List Step :=
  (slots.map fun k => .sent 0 k) ++ [.recv 0 8]
    ++ drain 1 [6, 7] ++ drain 2 [4, 5, 6]
    ++ (List.finRange 8).map fun k => .unfork (land 0 k.castSucc)

/-- The body. -/
def plan : List Step := [.signal 0, .signal 1, .signal 2, .barrier] ++ openY ++ relays ++ thirds ++ closing

/-! ## The beginning and the end -/

/-- A block cut into consecutive pieces of the given lengths. -/
def tiles (own : Bool) (r : Fin 4) : Nat → List Nat → List Piece
  | _, [] => []
  | lo, n :: ns => ⟨own, r, lo, n⟩ :: tiles own r (lo + n) ns

/-- A block in eight chunks. -/
def eights : List Nat := [128, 128, 128, 128, 128, 128, 128, 128]
/-- A block in three parts. -/
def parts : List Nat := [576, 224, 224]

/-- The lengths the blocks are cut into at the start. -/
def lens₀ (own : Bool) (r : Fin 4) : List Nat :=
  match own, r with
  | _, 0 => eights
  | _, 1 => parts
  | true, 2 => [512, 512]
  | true, 3 => [512, 512]
  | false, 2 => eights
  | false, 3 => eights
/-- The lengths at the end. -/
def lens₁ (own : Bool) (r : Fin 4) : List Nat :=
  match own, r with
  | false, 2 => [128, 128, 128, 128, 128, 128, 32, 224]
  | false, 3 => [128, 128, 128, 128, 64, 224, 96, 128]
  | own, r => lens₀ own r

/-- The eight blocks by half and role. -/
def blocks : List (Bool × Fin 4) := (List.finRange 4).map (true, ·) ++ (List.finRange 4).map (false, ·)

/-- The pieces of all blocks. -/
def pieces (lens : Bool → Fin 4 → List Nat) : List Piece := blocks.flatMap fun b => tiles b.1 b.2 0 (lens b.1 b.2)

/-- The DMA cells. -/
def dmaCells : List (Bool × Fin 3 × Fin 9) :=
  [true, false].flatMap fun b => axes.flatMap fun a => slots.map fun k => (b, a, k)
/-- All cells: the barrier and the DMA cells. -/
def allCells : List Cell := none :: dmaCells.map some
/-- The transfers. -/
def transfers : List (Fin 3 × Fin 9) := axes.flatMap fun a => slots.map fun k => (a, k)

/-- What is held and owed at the start. -/
def start : St :=
  (.x :: ((pieces lens₀).map (.mem .junk) ++ (axes.map .barTok ++ (transfers.map (fun t => .tok t.1 t.2)
      ++ (allCells.map .pos ++ (.cred none :: transfers.map fun t => .cred (some (true, t.1, t.2))))))),
    axes.map .bar ++ transfers.map fun t => .recv t.1 t.2)

/-- What is held at the end; nothing is owed. -/
def final : List Res := .x :: ((pieces lens₁).map (.mem .full) ++ allCells.map .zero)

set_option maxRecDepth 100000 in
/-- The plan runs from the start to the end. -/
theorem plan_runs : (match run plan start with | some (R, D) => decide (D = []) && (take final R == some []) | none => false) = true := by
  decide +kernel

/-! ## The state at each point -/

/-- Running two lists of steps, one after the other. -/
theorem run_append : ∀ (l l' : List Step) (s : St), run (l ++ l') s = (run l s).bind (run l')
  | [], _, _ => rfl
  | e :: l, l', s => by
    show (e.next s).bind (run (l ++ l')) = ((e.next s).bind (run l)).bind (run l')
    rw [Option.bind_assoc]
    exact congrArg _ (funext fun s' => run_append l l' s')

/-- The state before step `n`. -/
def stAt (n : Nat) : St := (run (plan.take n) start).getD ([], [])

/-- The plan does not get stuck. -/
theorem run_plan_some : (run plan start).isSome := by
  have h := plan_runs
  cases hr : run plan start with
  | none => rw [hr] at h; cases h
  | some s => rfl

/-- Step `n` takes the state before it to the state after it. -/
theorem next_at {n : Nat} {e : Step} (h : plan[n]? = some e) : e.next (stAt n) = some (stAt (n + 1)) := by
  have hn := List.getElem?_eq_some_iff.mp h
  obtain ⟨hlt, he⟩ := hn
  have hsome := run_plan_some
  have hsplit : plan = plan.take n ++ e :: plan.drop (n + 1) := by
    rw [← he, List.getElem_cons_drop, List.take_append_drop]
  have hsucc : plan.take (n + 1) = plan.take n ++ [e] := by
    rw [List.take_succ_eq_append_getElem hlt, he]
  have h1 : run plan start = (run (plan.take n) start).bind (run (e :: plan.drop (n + 1))) := by
    rw [← run_append, ← hsplit]
  rw [h1] at hsome
  unfold stAt
  rw [hsucc, run_append]
  cases ha : run (plan.take n) start with
  | none => rw [ha] at hsome; cases hsome
  | some s =>
    rw [ha] at hsome
    show e.next s = some (((e.next s).bind (run [])).getD ([], []))
    have hs : ((e.next s).bind (run (plan.drop (n + 1)))).isSome := hsome
    cases hb : e.next s with
    | none => rw [hb] at hs; cases hs
    | some s' => rfl

/-- What step `n` does to the resources and the dues, up to order, and what it requires. -/
theorem step_at {n : Nat} {e : Step} (h : plan[n]? = some e) :
    e.ok (stAt n).2 = true ∧ ∃ R D, (stAt n).1.Perm (e.need ++ R) ∧ (stAt n).2.Perm (e.pays ++ D) ∧ stAt (n + 1) = (e.give ++ R, D) := by
  have hx := next_at h
  unfold Step.next at hx
  split at hx
  · next hok =>
    refine ⟨hok, ?_⟩
    split at hx
    · next R D hR hD =>
      exact ⟨R, D, take_perm hR, take_perm hD, (Option.some.inj hx).symm⟩
    · cases hx
  · cases hx

/-- The state before the first step. -/
theorem stAt_zero : stAt 0 = start := rfl

/-- The state at the end. -/
theorem stAt_end : (stAt plan.length).2 = [] ∧ (stAt plan.length).1.Perm final := by
  have h := plan_runs
  unfold stAt
  rw [List.take_length]
  cases hr : run plan start with
  | none => rw [hr] at h; cases h
  | some s =>
    rw [hr] at h
    obtain ⟨R, D⟩ := s
    have h' := (Bool.and_eq_true _ _).mp h
    refine ⟨of_decide_eq_true h'.1, ?_⟩
    have := take_perm (beq_iff_eq.mp h'.2)
    rwa [List.append_nil] at this

/-- The plan has 122 steps. -/
theorem plan_length : plan.length = 122 := by decide +kernel

end Cert.KernelProof

end
-- ==== Proof.Protocol.lean ====
/-
What the devices hand one another, and what a name of the plan stands for.

Every device has 55 cells: the runtime's barrier and 54 DMA cells, each used for one round. A signal to a neighbour's
barrier hands over the rows the neighbour's transfers along that axis will land in; a receive cell hands its owner
those rows at their final contents; a send cell hands back the share the transfer was read with.
-/
module

public import proofs.«01_k».proof.Proof.Plan
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds library and the kernel's -/

/-- The ghost state of the schedule: rounds whose duties are named by an axis. -/
abbrev UB : Type := URounds (GSem nD τ sig) (Fin 3)
/-- The pipeline's ghost state beside it. -/
abbrev UU : Type := UR sig nD τ × UB

local notation "𝕄" => MT nD τ sig Unit (Elt F) ℕ UU ℕ

/-- The pipeline's part, -/
abbrev EP : Emb (UR sig nD τ) (MT nD τ sig Unit (Elt F) ℕ UU ℕ) := embL
/-- and the schedule's. -/
abbrev ER : Emb UB (MT nD τ sig Unit (Elt F) ℕ UU ℕ) := embR

variable (m : (ℓ : Loc nD τ sig) → Buf (Elt F) ℓ)

/-! ## Memrefs and cells -/

/-- The staged shard, -/
abbrev xM : Memref sig .tc .vmem S4096x1024 .bf16 := Memref.whole cc0_stg0_0
/-- and the staged result, as memory references. -/
abbrev oM : Memref sig .tc .vmem S8192x1024 .bf16 := Memref.whole cc0_stg1_0

/-- The shape of `n` rows. -/
abbrev rowsShape (n : Nat) : Shape := ⟨2, ![n, 1024]⟩

/-- A range of whole rows inside an array. -/
theorem row_inb {R lo n : Nat} (h : lo + n ≤ R) : ∀ a : Fin 2, (![lo, 0] : Fin 2 → Nat) a + (![n, 1024] : Fin 2 → Nat) a ≤ (![R, 1024] : Fin 2 → Nat) a
  | 0 => h
  | 1 => le_refl _

/-- The `n` rows of the result from row `lo` on. -/
def rowM (lo n : Nat) (h : lo + n ≤ 8192) : Memref sig .tc .vmem (rowsShape n) .bf16 :=
  oM.slice (Rect.unit (s := S8192x1024) ![lo, 0] ![n, 1024] (row_inb h)) (fun _ => rfl)

/-- The credit of a transfer of `n` rows. -/
def amt (n : Nat) : Nat := sig.dmaCredit .tc (Kind.tc.table .vmem) (oM : Memref sig .tc .vmem S8192x1024 .bf16).view.buf (rowsShape n) .bf16

/-- What a transfer of `n` rows credits. -/
theorem credit_rowM (lo n : Nat) (h : lo + n ≤ 8192) : (rowM lo n h).view.dmaCredit = amt n := rfl

/-- Every transfer credits something. -/
theorem amt_pos (a : Fin 3) (k : Fin 9) : 0 < amt (src a k).n :=
  sig.dmaCredit_pos _ _ _ _ _ ((by decide +kernel : ∀ (a : Fin 3) (k : Fin 9), 0 < (rowsShape (src a k).n).numel) a k)

/-- The runtime's barrier semaphore. -/
abbrev barS : Sem sig := (SemArray.scalar (sig.barrier 0 rfl) : Sems sig S_).sem

set_option backward.proofsInPublic true in
/-- The DMA semaphore of a transfer, on its receiver (`true`) or its sender. -/
def dsem (g : Bool × Fin 3 × Fin 9) : DmaSem sig :=
  ⟨2 + 18 * g.2.1.val + (if g.1 then 9 else 0) + g.2.2.val, by
    revert g; exact (by decide : ∀ g : Bool × Fin 3 × Fin 9, 2 + 18 * g.2.1.val + (if g.1 then 9 else 0) + g.2.2.val < 56)⟩

/-- The semaphore of a cell. -/
def csem : Cell → SemLoc sig
  | none => .reg barS
  | some g => .dma (dsem g)

/-- The cell on device `c`. -/
abbrev kcell (c : Dev nD) (g : Cell) : GSem nD τ sig := ((c : Thread nD τ), csem g)

/-- The cell a semaphore belongs to. -/
def decode (sm : SemLoc sig) : Option Cell := allCells.find? fun g => decide (csem g = sm)

/-- A cell is read back from its semaphore. -/
theorem decode_csem : ∀ g : Cell, decode (csem g) = some g := by decide +kernel
/-- Different cells have different semaphores. -/
theorem csem_inj : Function.Injective csem := fun g g' h => by
  have := (decode_csem g).symm.trans ((congrArg decode h).trans (decode_csem g')); exact Option.some.inj this

/-- A counter names its device and its cell. -/
theorem kcell_inj {c c' : Dev nD} {g g' : Cell} (h : kcell c g = kcell c' g') : c = c' ∧ g = g' :=
  ⟨congrArg (fun g : GSem nD τ sig => g.1.1) h, csem_inj (congrArg Prod.snd h)⟩

/-! ## Contents -/

/-- The device's shard, as its staging buffer holds it. -/
def xstg (c : Dev nD) : (cc0_stg0_0 : Ref sig .tc).ty.Contents (Elt F) :=
  (win0_0.blk (0 : Fin 1)).view.read (Elt F) (m ((c : Thread nD τ).loc main_arg0))

/-- An index of the result brought into a shard. -/
def fold (i : S8192x1024.Idx) : S4096x1024.Idx
  | 0 => ⟨(i 0).val % 4096, Nat.mod_lt _ (by decide)⟩
  | 1 => i 1

/-- The device an element of device `c`'s result comes from. -/
def ownerAt (c : Dev nD) (i : S8192x1024.Idx) : Dev nD := owner c ((i 0).val / 1024) (decide (576 ≤ (i 0).val % 1024))

/-- The result on device `c`: every row as the device it comes from has it. -/
def outAt (c : Dev nD) : (cc0_stg1_0 : Ref sig .tc).ty.Contents (Elt F) := fun i => xstg m (ownerAt c i) (fold i)

/-! ## Points-tos of row ranges -/

/-- Where device `c` stages its result, -/
abbrev oLoc (c : Dev nD) : Loc nD τ sig := (c : Thread nD τ).loc cc0_stg1_0
/-- and its shard. -/
abbrev xLoc (c : Dev nD) : Loc nD τ sig := (c : Thread nD τ).loc cc0_stg0_0

/-- The elements of `n` rows from row `lo` on. -/
def rowSet (lo n : Nat) : Finset S8192x1024.Idx := Finset.univ.filter fun i => lo ≤ (i 0).val ∧ (i 0).val < lo + n

/-- The indices in a range of rows. -/
theorem mem_rowSet {lo n : Nat} {i : S8192x1024.Idx} : i ∈ rowSet lo n ↔ lo ≤ (i 0).val ∧ (i 0).val < lo + n := by
  simp [rowSet]

/-- The rows of a piece on device `c`, held at share `q` and contents `f`. -/
def rows (c : Dev nD) (q : PosShare TreeShare) (lo n : Nat) (f : Buf (Elt F) (oLoc c)) : sProp 𝕄 :=
  (oLoc c) ↦[(rowSet lo n : Finset (Idx (oLoc c)))]{q} f

/-- Rows can be paid with. -/
instance rows_storable (c : Dev nD) (q) (lo n : Nat) (f) : BI.Storable (upEmb : UEmb _ 𝕄) (rows (F := F) c q lo n f) := by
  unfold rows; infer_instance

/-- A piece of the result held as `kd` says. -/
def held (c : Dev nD) (kd : Kind) (p : Piece) : sProp 𝕄 :=
  match kd with
  | .junk => iprop(∃ f, rows c fullShare (p.row c) p.n f)
  | .full => rows c fullShare (p.row c) p.n (outAt m c)
  | .left => rows c fullShare.left (p.row c) p.n (outAt m c)
  | .right => rows c fullShare.right (p.row c) p.n (outAt m c)

/-- So can a piece, however it is held, -/
instance held_storable (c : Dev nD) (kd : Kind) (p : Piece) : BI.Storable (upEmb : UEmb _ 𝕄) (held (F := F) m c kd p) := by
  unfold held; cases kd <;> infer_instance

/-! ## The schedule -/

/-- What the neighbour along axis `a` hands over with its signal: the rows on it that this device's transfers along
    the axis land in. -/
def barPay (c : Dev nD) (a : Fin 3) : sProp 𝕄 := bigSep Finset.univ fun k : Fin 9 => held m (nb a c) .junk (land a k)

/-- What a DMA cell hands its owner. -/
def dmaPay (c : Dev nD) : Bool × Fin 3 × Fin 9 → sProp 𝕄
  | (true, a, k) => held m c .full (land a k)
  | (false, a, k) => held m c (kindOf a k) (src a k)

/-- what the barrier pays, -/
instance barPay_storable (c : Dev nD) (a : Fin 3) : BI.Storable (upEmb : UEmb _ 𝕄) (barPay (F := F) m c a) := by
  unfold barPay; infer_instance
/-- what a transfer pays, -/
instance dmaPay_storable (c : Dev nD) (g) : BI.Storable (upEmb : UEmb _ 𝕄) (dmaPay (F := F) m c g) := by
  obtain ⟨b, a, k⟩ := g; cases b <;> (unfold dmaPay; infer_instance)

/-- The units of a cell's round per duty. -/
def unit : Cell → Nat
  | none => 1
  | some g => amt (src g.2.1 g.2.2).n

/-- Every duty has a positive amount. -/
theorem unit_pos : ∀ g, 0 < unit g
  | none => Nat.one_pos
  | some g => amt_pos g.2.1 g.2.2

/-- The duties of a cell: the barrier one per neighbour, a DMA cell one. -/
def dutiesOf : Cell → Finset (Fin 3)
  | none => Finset.univ
  | some _ => {0}

/-- What duty `d` of a cell pays. -/
def payOf (c : Dev nD) (d : Fin 3) : Cell → sProp 𝕄
  | none => barPay m c d
  | some g => dmaPay m c g

/-- and so what any duty pays. -/
instance payOf_storable (c : Dev nD) (d : Fin 3) (g : Cell) : BI.Storable (upEmb : UEmb _ 𝕄) (payOf (F := F) m c d g) := by
  cases g <;> (unfold payOf; infer_instance)

/-- One round at every cell. -/
def sched : Rounds.Schedule (GSem nD τ sig) (Fin 3) 𝕄 where
  duties g r := if r = 0 ∧ g.1.2 = .tc then (decode g.2).elim ∅ dutiesOf else ∅
  unitless _ := False
  amount g _ _ := (decode g.2).elim 1 unit
  payload g _ d := (decode g.2).elim iprop(emp) (payOf m g.1.1 d)
  amount_pos g _ _ _ := by
    cases decode g.2 with
    | none => exact Nat.one_pos
    | some x => exact unit_pos x

/-- All payloads of the schedule can be stored. -/
instance sched_storable (g : GSem nD τ sig) (r : ℕ) (d : Fin 3) :
    BI.Storable (upEmb : UEmb _ 𝕄) ((sched (F := F) m).payload g r d) := by
  show BI.Storable upEmb ((decode g.2).elim iprop(emp) (payOf m g.1.1 d))
  cases decode g.2 with
  | none => show BI.Storable upEmb iprop(emp); infer_instance
  | some x => show BI.Storable upEmb (payOf m g.1.1 d x); infer_instance

section Sched
variable (c : Dev nD) (g : Cell)

omit [FloatOps F] in
/-- The duties of a cell in its only round, -/
theorem duties_cell : (sched (F := F) m).duties (kcell c g) 0 = dutiesOf g := by
  dsimp only [sched]; rw [if_pos ⟨rfl, rfl⟩, decode_csem]; rfl
omit [FloatOps F] in
/-- none afterwards, -/
theorem duties_later (g : GSem nD τ sig) : ∀ r, 1 ≤ r → (sched (F := F) m).duties g r = ∅ :=
  fun r hr => by dsimp only [sched]; rw [if_neg fun h => by omega]
omit [FloatOps F] in
/-- the amount of each, -/
theorem amount_cell (d : Fin 3) : (sched (F := F) m).amount (kcell c g) 0 d = unit g := by
  dsimp only [sched]; rw [decode_csem]; rfl
omit [FloatOps F] in
/-- what each pays, -/
theorem payload_cell (d : Fin 3) : (sched (F := F) m).payload (kcell c g) 0 d = payOf m c d g := by
  dsimp only [sched]; rw [decode_csem]; rfl

/-- The units of a cell's whole round. -/
def total : Cell → Nat
  | none => 3
  | some g => unit (some g)

omit [FloatOps F] in
/-- and what the round adds up to. -/
theorem expect_cell : (sched (F := F) m).expect (kcell c g) 0 = total g := by
  unfold Schedule.expect Schedule.amountOf
  rw [duties_cell, Finset.sum_congr rfl fun d _ => amount_cell m c g d, Finset.sum_const]
  cases g <;> simp [dutiesOf, total, unit]

omit [FloatOps F] in
/-- All that the barrier's round pays. -/
theorem rest_bar : bigSep ((sched (F := F) m).duties (kcell c none) 0 \ ∅) (fun d => (sched (F := F) m).payload (kcell c none) 0 d)
    = bigSep Finset.univ (barPay m c) := by
  rw [Finset.sdiff_empty, duties_cell]
  exact bigSep_congr fun d _ => payload_cell m c none d
omit [FloatOps F] in
/-- All that a DMA cell's round pays. -/
theorem rest_dma (x : Bool × Fin 3 × Fin 9) :
    bigSep ((sched (F := F) m).duties (kcell c (some x)) 0 \ ∅) (fun d => (sched (F := F) m).payload (kcell c (some x)) 0 d) = dmaPay m c x := by
  rw [Finset.sdiff_empty, duties_cell]
  show bigSep {(0 : Fin 3)} _ = _
  rw [bigSep_singleton, payload_cell]; rfl

end Sched

/-! ## Names as resources -/

/-- The axis of what is owed. -/
def Due.axis : Due → Fin 3
  | .bar a => a
  | .recv a _ => a

/-- What one entry of the list of dues owes. -/
def owed1 (c : Dev nD) (d : Due) : CellTallies nD τ sig Unit := tallyAt (kcell (nb d.axis c) d.cell) () (unit d.cell)
/-- What the list owes. -/
def owedL (c : Dev nD) (D : List Due) : CellTallies nD τ sig Unit := (D.map (owed1 c)).sum

/-- What each resource is. -/
def res (c : Dev nD) : Res → sProp 𝕄
  | .barTok a => dutyTok ER (kcell (nb a c) none) 0 a
  | .tok a k => iprop(dutyTok ER (kcell c (some (false, a, k))) 0 0 ∗ dutyTok ER (kcell (nb a c) (some (true, a, k))) 0 0)
  | .pos g => atPos ER (kcell c g) 0 ∅ 0
  | .zero g => semVal (kcell c g) 0
  | .cred g => cred (tallyAt (kcell c g) () (total g))
  | .mem kd p => held m c kd p
  | .landing a k => held m (nb a c) .junk (land a k)
  | .x => iprop((xLoc c) ↦{fullShare} xstg m c)

/-- The levels of the TensorCores' cells, for the waits. -/
def L (g : GSem nD τ sig) : Finset Unit := if g.1.2 = .tc then {()} else ∅
/-- The level of a cell. -/
def lv (g : GSem nD τ sig) (_ : Unit) : ℕ := (decode g.2).elim 0 level

/-- Only the TensorCores' cells have levels. -/
theorem L_of_ne (g : GSem nD τ sig) (h : g.1.2 ≠ .tc) : L g = ∅ := if_neg h
/-- All of theirs have one. -/
theorem L_tc (c : Dev nD) (sm : SemLoc sig) : L ((c : Thread nD τ), sm) = {()} := if_pos rfl
/-- The level of a device's cell is that of the cell. -/
theorem lv_cell (c : Dev nD) (g : Cell) (u : Unit) : lv (kcell c g) u = level g := by unfold lv; rw [decode_csem]; rfl

/-- The invariants of all cells of all devices under the names `K`, and that each cell has reached its round. -/
def records (K : Dev nD × Cell → ℕ) : sProp 𝕄 :=
  iprop((bigSep Finset.univ fun x : Dev nD × Cell => cellInv ER (sched m) (K x) (kcell x.1 x.2))
    ∗ bigSep Finset.univ fun x : Dev nD × Cell => reached ER (kcell x.1 x.2) 0)

/-- The records stay. -/
instance records_persistent (K : Dev nD × Cell → ℕ) : BI.Persistent (records m K) := by unfold records; infer_instance

/-- The shared knowledge. -/
def known : sProp 𝕄 := iprop((∃ K, records m K) ∗ levAts L lv)

/-- What all devices know stays. -/
instance known_persistent : BI.Persistent (known (F := F) m) := by unfold known; infer_instance

/-- What device `c` has at state `s` of the plan. -/
def bag (c : Dev nD) (s : St) : sProp 𝕄 :=
  iprop(known m ∗ bigSepL s.1 (res m c) ∗ ∃ W, owes (c : Thread nD τ) (owedL c s.2) W)

end Cert.KernelProof

end
-- ==== Proof.Rows.lean ====
/-
Row ranges of the result: the elements a slice covers, cutting and sharing a range, and what a store or a transfer
leaves in one.
-/
module

public import proofs.«01_k».proof.Proof.Protocol
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ UU ℕ

/-! ## The elements of a slice -/

/-- A slice of `n` whole rows is that range of rows. -/
theorem slice_eq {n lo : Nat} {off : Fin 2 → Nat} (ho : off = ![lo, 0]) (h : lo + n ≤ 8192)
    {inb : ∀ a : Fin 2, off a + (![n, 1024] : Fin 2 → Nat) a ≤ (![8192, 1024] : Fin 2 → Nat) a} {hs} :
    (oM : Memref sig .tc .vmem S8192x1024 .bf16).slice (Rect.unit (s := S8192x1024) off ![n, 1024] inb) hs = rowM lo n h := by
  subst ho; rfl

/-- The elements of a rectangle of whole rows, -/
theorem set_rect {n lo : Nat} (h : lo + n ≤ 8192) :
    (Rect.unit (s := S8192x1024) ![lo, 0] ![n, 1024] (row_inb h)).set = rowSet lo n := by
  ext i
  rw [Rect.mem_set_unit, mem_rowSet]
  constructor
  · intro hi; exact hi 0
  · intro hi a
    match a with
    | 0 => exact hi
    | 1 => exact ⟨Nat.zero_le _, by have := (i 1).isLt; simpa using this⟩

/-- of an access through it, -/
theorem set_access {n lo : Nat} (h : lo + n ≤ 8192) :
    ((oM : Memref sig .tc .vmem S8192x1024 .bf16).access (Rect.unit (s := S8192x1024) ![lo, 0] ![n, 1024] (row_inb h))).set = rowSet lo n :=
  (View.set_slice_whole cc0_stg1_0 _).trans (set_rect h)

/-- and of the slice. -/
theorem set_rowM {n lo : Nat} (h : lo + n ≤ 8192) : (rowM lo n h).view.set = rowSet lo n := set_access h

/-! ## Cutting and sharing -/

/-- A range of rows is two ranges laid end to end. -/
theorem rows_split (c : Dev nD) (q : PosShare TreeShare) (lo n n' : Nat) (f : Buf (Elt F) (oLoc c)) :
    rows c q lo (n + n') f = iprop(rows c q lo n f ∗ rows c q (lo + n) n' f) := by
  unfold rows
  rw [show (rowSet lo (n + n') : Finset (Idx (oLoc c))) = (rowSet lo n : Finset (Idx (oLoc c))) ∪ (rowSet (lo + n) n' : Finset (Idx (oLoc c))) from ?_]
  · have hd : Disjoint (rowSet lo n : Finset (Idx (oLoc c))) (rowSet (lo + n) n' : Finset (Idx (oLoc c))) := ?_
    · exact (pointsTo_union hd).1.antisymm (pointsTo_union hd).2
    refine Finset.disjoint_left.mpr fun i hi hi' => ?_
    have h1 := mem_rowSet.mp hi
    have h2 := mem_rowSet.mp hi'
    omega
  · ext i
    have e1 : i ∈ (rowSet lo (n + n') : Finset (Idx (oLoc c))) ↔ _ := mem_rowSet
    have e2 : i ∈ (rowSet lo n : Finset (Idx (oLoc c))) ↔ _ := mem_rowSet
    have e3 : i ∈ (rowSet (lo + n) n' : Finset (Idx (oLoc c))) ↔ _ := mem_rowSet
    rw [Finset.mem_union, e1, e2, e3]; omega

/-- A range of rows is its two half shares. -/
theorem rows_share (c : Dev nD) (lo n : Nat) (f : Buf (Elt F) (oLoc c)) :
    rows c fullShare lo n f = iprop(rows c fullShare.left lo n f ∗ rows c fullShare.right lo n f) :=
  (pointsTo_share (PosShare.mem_left_op_right fullShare)).1.antisymm (pointsTo_share (PosShare.mem_left_op_right fullShare)).2

/-- Only the contents in the range matter. -/
theorem rows_congr (c : Dev nD) (q : PosShare TreeShare) (lo n : Nat) {f g : Buf (Elt F) (oLoc c)}
    (h : ∀ i : S8192x1024.Idx, lo ≤ (i 0).val → (i 0).val < lo + n → f i = g i) : rows c q lo n f = rows c q lo n g :=
  pointsTo_congr fun i hi => h i (mem_rowSet.mp hi).1 (mem_rowSet.mp hi).2

/-- Cutting a piece held at its final contents. -/
theorem held_cut (c : Dev nD) (p : Piece) (n : Nat) (h : n ≤ p.n) :
    held m c .full p = iprop(held m c .full (p.fst n) ∗ held m c .full (p.snd n)) := by
  show rows c fullShare (p.row c) p.n (outAt m c) = iprop(rows c fullShare (p.row c) n (outAt m c) ∗ rows c fullShare ((p.snd n).row c) (p.n - n) (outAt m c))
  rw [show (p.snd n).row c = p.row c + n from (Nat.add_assoc _ _ _).symm, ← rows_split, Nat.add_sub_cancel' h]

/-- The two halves of a piece held at its final contents. -/
theorem held_fork (c : Dev nD) (p : Piece) : held m c .full p = iprop(held m c .left p ∗ held m c .right p) :=
  rows_share c (p.row c) p.n (outAt m c)

/-! ## Contents -/

/-- The share of a kind at final contents. -/
def Kind.share : Kind → PosShare TreeShare
  | .left => fullShare.left
  | .right => fullShare.right
  | _ => fullShare

/-- A piece held at its final contents, as rows. -/
theorem held_of (c : Dev nD) {kd : Kind} (hk : kd ≠ .junk) (p : Piece) : held m c kd p = rows c kd.share (p.row c) p.n (outAt m c) := by
  cases kd with
  | junk => exact absurd rfl hk
  | _ => rfl

/-- What a transfer reads has its final contents. -/
theorem kindOf_ne (a : Fin 3) (k : Fin 9) : kindOf a k ≠ .junk :=
  (by decide : ∀ (a : Fin 3) (k : Fin 9), kindOf a k ≠ .junk) a k

/-- The coordinates of an element of a slice. -/
theorem emb_rect {R n lo : Nat} (h : lo + n ≤ R) (x : (rowsShape n).Idx) (a : Fin 2) :
    ((Rect.unit (s := ⟨2, ![R, 1024]⟩) ![lo, 0] ![n, 1024] (row_inb h)).emb x a).val = (![lo, 0] : Fin 2 → Nat) a + (x a).val := by
  simp [Rect.unit, Rect.emb]

/-- Reading a view and writing what was read leaves, in the view's elements, the contents read. -/
theorem write_read_view {sp : Space} {s : Shape} {e : EltTy} (v : View sig .tc sp s e) (fd f : v.ty.Contents (Elt F)) {i : v.ty.Idx}
    (hi : i ∈ v.set) : v.write (Elt F) fd (v.read (Elt F) f) Finset.univ i = f i := by
  obtain ⟨y, rfl⟩ := View.exists_emb_of_mem_set _ hi
  rw [View.write_emb_of_mem (h := Finset.mem_univ _), View.read_apply]
  simp

/-- What a transfer leaves: its destination has, in the rows written, the sender's contents. -/
theorem write_read (lo n : Nat) (h : lo + n ≤ 8192) (fd f : (cc0_stg1_0 : Ref sig .tc).ty.Contents (Elt F)) (i : S8192x1024.Idx)
    (hlo : lo ≤ (i 0).val) (hhi : (i 0).val < lo + n) :
    (rowM lo n h).view.write (Elt F) fd ((rowM lo n h).view.read (Elt F) f) Finset.univ i = f i :=
  write_read_view (rowM lo n h).view fd f (by rw [set_rowM]; exact mem_rowSet.mpr ⟨hlo, hhi⟩)

/-- The rows of a transfer hold the same on its sender and on its receiver. -/
theorem outAt_land (a : Fin 3) (k : Fin 9) (c : Dev nD) (i : S8192x1024.Idx) (hlo : (src a k).row c ≤ (i 0).val)
    (hhi : (i 0).val < (src a k).row c + (src a k).n) : outAt m (nb a c) i = outAt m c i := by
  have hin := src_in a k
  have hg : (i 0).val / 1024 = blk c (src a k).own (src a k).role := by unfold Piece.row at hlo hhi; omega
  have ho : ownerAt (nb a c) i = ownerAt c i := by
    unfold ownerAt
    rw [hg]
    refine owner_land a k c _ fun hk => ?_
    subst hk
    have hh := src_hi a
    unfold Piece.row at hlo hhi
    by_cases ha : a = 0
    · rw [if_pos ha] at hh
      rw [decide_eq_false (by omega), decide_eq_false (by simpa using ha)]
    · rw [if_neg ha] at hh
      rw [decide_eq_true (by omega), decide_eq_true ha]
  unfold outAt
  rw [ho]

/-- What a store leaves: in the rows written, the device's shard. -/
theorem write_shard (c : Dev nD) (p : Piece) (hown : p.own = true) (hin : p.lo + p.n ≤ 1024) (h : p.row c % 4096 + p.n ≤ 4096)
    (h' : p.row c + p.n ≤ 8192) (fd : (cc0_stg1_0 : Ref sig .tc).ty.Contents (Elt F)) (i : S8192x1024.Idx)
    (hlo : p.row c ≤ (i 0).val) (hhi : (i 0).val < p.row c + p.n) :
    ((oM : Memref sig .tc .vmem S8192x1024 .bf16).access (Rect.unit (s := S8192x1024) ![p.row c, 0] ![p.n, 1024] (row_inb h'))).write (Elt F) fd
      ((xM : Memref sig .tc .vmem S4096x1024 .bf16).view.readAt (Elt F)
        (Rect.unit (s := S4096x1024) ![p.row c % 4096, 0] ![p.n, 1024] (row_inb h)).toLoadRect (xstg m c)) Finset.univ i = outAt m c i := by
  have hg : (i 0).val / 1024 = blk c true p.role := by rw [← hown]; unfold Piece.row at hlo hhi; omega
  have ho : ownerAt c i = c := by unfold ownerAt; rw [hg]; exact owner_own c p.role _
  have hi : i ∈ ((oM : Memref sig .tc .vmem S8192x1024 .bf16).access (Rect.unit (s := S8192x1024) ![p.row c, 0] ![p.n, 1024] (row_inb h'))).set := by
    rw [set_access h']; exact mem_rowSet.mpr ⟨hlo, hhi⟩
  obtain ⟨y, rfl⟩ := View.exists_emb_of_mem_set _ hi
  refine (View.write_emb_of_mem (v := (oM : Memref sig .tc .vmem S8192x1024 .bf16).access (Rect.unit (s := S8192x1024) ![p.row c, 0] ![p.n, 1024] (row_inb h')))
    (Val := Elt F) fd _ (Finset.mem_univ y)).trans ?_
  show xstg m c ((Rect.unit (s := S4096x1024) ![p.row c % 4096, 0] ![p.n, 1024] (row_inb h)).emb y)
    = outAt m c ((Rect.unit (s := S8192x1024) ![p.row c, 0] ![p.n, 1024] (row_inb h')).emb y)
  have hy : (y 0).val < p.n := (y 0).isLt
  have e0 := emb_rect (R := 8192) h' y 0
  have e1 := emb_rect (R := 8192) h' y 1
  have d0 := emb_rect (R := 4096) h y 0
  have d1 := emb_rect (R := 4096) h y 1
  change ownerAt c ((Rect.unit (s := S8192x1024) ![p.row c, 0] ![p.n, 1024] (row_inb h')).emb y) = c at ho
  generalize (Rect.unit (s := S8192x1024) ![p.row c, 0] ![p.n, 1024] (row_inb h')).emb y = i at *
  unfold outAt
  rw [ho]
  congr 1
  refine funext fun a => ?_
  match a with
  | 0 =>
    refine Fin.ext ?_
    rw [d0]
    show p.row c % 4096 + (y 0).val = (i 0).val % 4096
    rw [e0]
    show p.row c % 4096 + (y 0).val = (p.row c + (y 0).val) % 4096
    omega
  | 1 =>
    refine Fin.ext ?_
    rw [d1]
    show _ = (i 1).val
    rw [e1]
    rfl

end Cert.KernelProof

end
-- ==== Proof.Steps.lean ====
/-
One rule per kind of step: if step `n` of the plan is an operation, then from the state before it the operation runs
and the rest of the program continues from the state after it.
-/
module

public import proofs.«01_k».proof.Proof.Rows

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- No loop needs a variant. -/
abbrev 𝒱₀ : Variants := Variants.none

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of resources -/

/-- The order of a list of resources does not matter. -/
theorem bigSepL_of_perm {I : Type} {l l' : List I} (h : l.Perm l') (Φ : I → sProp 𝕄) : bigSepL l Φ = bigSepL l' Φ := by
  induction h with
  | nil => rfl
  | cons x _ ih => rw [bigSepL_cons', bigSepL_cons', ih]
  | swap x y l =>
    rw [bigSepL_cons', bigSepL_cons', bigSepL_cons', bigSepL_cons']
    have h : iprop(Φ y ∗ Φ x ∗ bigSepL l Φ) ⊣⊢ iprop(Φ x ∗ Φ y ∗ bigSepL l Φ) := sep_left_comm
    exact h.1.antisymm h.2
  | trans _ _ h₁ h₂ => exact h₁.trans h₂

/-- The order of what is owed does not matter. -/
theorem owedL_perm (c : Dev nD) {D D' : List Due} (h : D.Perm D') : owedL c D = owedL c D' := (h.map _).sum_eq
/-- What is owed adds up, -/
theorem owedL_append (c : Dev nD) (D D' : List Due) : owedL c (D ++ D') = owedL c D + owedL c D' := by
  unfold owedL; rw [List.map_append, List.sum_append]
/-- one by one, -/
theorem owedL_cons (c : Dev nD) (d : Due) (D : List Due) : owedL c (d :: D) = owedL c D + owed1 c d := by
  unfold owedL; rw [List.map_cons, List.sum_cons, add_comm]
/-- from nothing. -/
theorem owedL_nil (c : Dev nD) : owedL c [] = 0 := rfl

/-- What is owed lies at the cells owed. -/
theorem owedL_pos (c : Dev nD) : ∀ {D : List Due} {g : GSem nD τ sig} {u : Unit}, 0 < owedL c D g u → ∃ d ∈ D, g = kcell (nb d.axis c) d.cell
  | [], g, u, h => absurd h (Nat.lt_irrefl 0)
  | d :: D, g, u, h => by
    rw [owedL_cons, Pi.add_apply, Finsupp.add_apply] at h
    by_cases hd : 0 < owedL c D g u
    · obtain ⟨d', hm, hg⟩ := owedL_pos c hd
      exact ⟨d', List.mem_cons_of_mem _ hm, hg⟩
    · refine ⟨d, List.mem_cons_self, ?_⟩
      unfold owed1 at h
      rw [tallyAt_apply] at h
      by_contra hg
      rw [if_neg fun hh => hg hh.1] at h
      omega

/-- A device may wait at a cell below everything it owes. -/
theorem mayWait_of (c : Dev nD) (g : Cell) (D : List Due) (h : ∀ d ∈ D, level g < level d.cell) :
    (levAts L lv : sProp 𝕄) ⊢ MayWait (c : Thread nD τ) (csem g) () (owedL c D) :=
  MayOwe.of_cut (L := L) (lev := lv) (level g) (fun p hp => by rw [Finset.mem_singleton.mp hp, L_tc]; exact Finset.mem_singleton_self _)
    (fun g' u hg => by obtain ⟨d, -, rfl⟩ := owedL_pos c hg; exact Finset.mem_singleton_self _)
    (fun p hp => by rw [Finset.mem_singleton.mp hp]; exact (lv_cell c g ()).le)
    (fun g' u hg => by obtain ⟨d, hd, rfl⟩ := owedL_pos c hg; rw [lv_cell]; exact h d hd)

/-- A cell's invariant, out of the records. -/
theorem records_inv (K : Dev nD × Cell → ℕ) (c : Dev nD) (g : Cell) : records m K ⊢ cellInv ER (sched m) (K (c, g)) (kcell c g) := by
  unfold records
  exact sep_elim_left.trans (bigSep_elim (Finset.mem_univ (c, g)))

/-- A cell's only round has been reached. -/
theorem records_reached (K : Dev nD × Cell → ℕ) (c : Dev nD) (g : Cell) : records m K ⊢ reached ER (kcell c g) 0 := by
  unfold records
  exact sep_elim_right.trans (bigSep_elim (Finset.mem_univ (c, g)))

/-! ## From a rule about a step's own resources to a rule about states -/

/-- `P` follows from what the step takes, if what it gives then leads to `P'`. -/
def Does (c : Dev nD) (e : Step) (O : CellTallies nD τ sig Unit) (P P' : sProp 𝕄) : Prop :=
  iprop(known m ∗ bigSepL e.need (res m c) ∗ ∃ W, owes (c : Thread nD τ) (owedL c e.pays + O) W)
    ⊢ iprop(((bigSepL e.give (res m c) ∗ ∃ W, owes (c : Thread nD τ) O W) -∗ P') -∗ P)

/-- A rule about a step's own resources is a rule about the states before and after it. -/
theorem step_of {c : Dev nD} {n : Nat} {e : Step} (h : plan[n]? = some e) {P P' : sProp 𝕄}
    (H : ∀ D, e.ok (e.pays ++ D) = true → Does m c e (owedL c D) P P') (hk : bag m c (stAt (n + 1)) ⊢ P') : bag m c (stAt n) ⊢ P := by
  obtain ⟨hok, R, D, hR, hD, hs⟩ := step_at h
  have hok' : e.ok (e.pays ++ D) = true := by
    rw [← hok]; unfold Step.ok
    congr 1
    cases e.waits with
    | none => rfl
    | some g => exact (hD.symm.all_eq)
  have hx := H D hok'
  rw [hs] at hk
  unfold Does at hx
  unfold bag at hk ⊢
  rw [bigSepL_of_perm hR, bigSepL_append, owedL_perm c hD, owedL_append]
  rw [bigSepL_append] at hk
  iintro ⟨#Hk, ⟨Hn, HR⟩, Ho⟩
  iapply hx $$ [Hn Ho]
  · isplitr; · iexact Hk
    isplitl [Hn] <;> iassumption
  iintro ⟨Hg, Ho⟩
  iapply hk
  isplitr; · iexact Hk
  isplitl [Hg HR]
  · isplitl [Hg] <;> iassumption
  · iexact Ho

/-! ## The steps without an operation -/

/-- A step that only renames. -/
theorem rename_does {c : Dev nD} {e : Step} (hp : e.pays = []) {O : CellTallies nD τ sig Unit} {P : sProp 𝕄}
    (h : bigSepL e.need (res m c) ⊢ bigSepL e.give (res m c)) : Does m c e O P P := by
  unfold Does
  rw [hp, owedL_nil, zero_add]
  iintro ⟨-, Hn, Ho⟩ Hk
  iapply Hk
  isplitl [Hn]
  · iapply h; iexact Hn
  · iexact Ho

/-- Parting a piece in two half shares. -/
theorem fork_step {c : Dev nD} {n : Nat} {p : Piece} (h : plan[n]? = some (.fork p)) {P : sProp 𝕄} (hk : bag m c (stAt (n + 1)) ⊢ P) :
    bag m c (stAt n) ⊢ P :=
  step_of m h (fun D _ => rename_does m rfl (Entails.of_eq (held_fork m c p))) hk

/-- Putting the half shares together. -/
theorem unfork_step {c : Dev nD} {n : Nat} {p : Piece} (h : plan[n]? = some (.unfork p)) {P : sProp 𝕄} (hk : bag m c (stAt (n + 1)) ⊢ P) :
    bag m c (stAt n) ⊢ P :=
  step_of m h (fun D _ => rename_does m rfl (Entails.of_eq (held_fork m c p).symm)) hk

/-- Cutting a piece in two. -/
theorem cut_step {c : Dev nD} {n : Nat} {p : Piece} {l : Nat} (h : plan[n]? = some (.cut p l)) {P : sProp 𝕄} (hk : bag m c (stAt (n + 1)) ⊢ P) :
    bag m c (stAt n) ⊢ P :=
  step_of m h (fun D hok => rename_does m rfl (Entails.of_eq (held_cut m c p l (by simpa [Step.ok, Step.waits] using hok)))) hk

/-- Putting two pieces together. -/
theorem glue_step {c : Dev nD} {n : Nat} {p : Piece} {l : Nat} (h : plan[n]? = some (.glue p l)) {P : sProp 𝕄} (hk : bag m c (stAt (n + 1)) ⊢ P) :
    bag m c (stAt n) ⊢ P :=
  step_of m h (fun D hok => rename_does m rfl (Entails.of_eq (held_cut m c p l (by simpa [Step.ok, Step.waits] using hok)).symm)) hk

/-! ## The barrier -/

/-- A signal to a neighbour hands over the rows that the neighbour's transfers land in. -/
theorem signal_does {c : Dev nD} (a : Fin 3) {dev : Dev nD} (hdev : dev = nb a c) (O : CellTallies nD τ sig Unit)
    {α : Type} {Q : α → sProp 𝕄} {k : PUnit → Prog (TpuEff nD τ sig (Elt F) Λ₀ .tc) α} {j : Int} (hj : j = 1) :
    Does m c (.signal a) O (WP c (.op (.semSignal (dev, .tc) barS j) k) Q) (WP c (k ⟨⟩) Q) := by
  subst hdev hj
  have hpay : bigSepL (slots.map fun k => Res.mem .junk (land a k)) (res m c) ⊢ (sched m).payload ((nb a c : Thread nD τ), .reg barS) 0 a := by
    rw [show (((nb a c : Dev nD) : Thread nD τ), SemLoc.reg barS) = kcell (nb a c) none from rfl, payload_cell]
    show _ ⊢ barPay m (nb a c) a
    unfold barPay
    rw [nb_nb, bigSepL_map, bigSep_univ_eq_bigSepL slots (by decide) (by decide)]
    exact BI.Entails.refl _
  unfold Does known
  rw [show bigSepL (Step.signal a).give (res m c) = iprop(emp) from rfl,
    show bigSepL (Step.signal a).need (res m c) = iprop(dutyTok ER (kcell (nb a c) none) 0 a ∗ bigSepL (slots.map fun k => Res.mem .junk (land a k)) (res m c))
      from bigSepL_cons' _ _ _]
  iintro ⟨⟨⟨%K, #HK⟩, #Hlev⟩, ⟨Htok, Hpay⟩, ⟨%W, HO⟩⟩ Hk
  ihave #Hi := (records_inv m K (nb a c) none) $$ HK
  ihave #Hr := (records_reached m K (nb a c) none) $$ HK
  iapply (Rounds.wp_signal 𝒱₀ ER (sched m) (c : Thread nD τ) none (dst := (nb a c : Thread nD τ)) (sem := barS) (κ := K (nb a c, none))
      (r := 0) (d := a) (by rw [show (((nb a c : Dev nD) : Thread nD τ), SemLoc.reg barS) = kcell (nb a c) none from rfl, duties_cell]; exact Finset.mem_univ _)
      (amount_cell m (nb a c) none a) () O (O₀ := owedL c (Step.signal a).pays + O) (by rw [add_comm]; congr 1; exact (owedL_cons c _ []).trans (by rw [owedL_nil, zero_add]; rfl)) (W := W))
    $$ [HO Htok Hpay]
  · isplitr; · iexact Hi
    isplitl [HO]; · iexact HO
    isplitl [Htok]; · iexact Htok
    isplitl [Hpay]; · iapply hpay; iexact Hpay
    iexact Hr
  iintro HO
  iapply Hk
  isplitr
  · iempintro
  · iexists W; iexact HO

/-- The same between states. -/
theorem signal_step {c : Dev nD} {n : Nat} (a : Fin 3) (h : plan[n]? = some (.signal a)) {dev : Dev nD} (hdev : dev = nb a c)
    {α : Type} {Q : α → sProp 𝕄} {k : PUnit → Prog (TpuEff nD τ sig (Elt F) Λ₀ .tc) α} {j : Int} (hj : j = 1)
    (hk : bag m c (stAt (n + 1)) ⊢ WP c (k ⟨⟩) Q) : bag m c (stAt n) ⊢ WP c (.op (.semSignal (dev, .tc) barS j) k) Q :=
  step_of m h (fun D _ => signal_does m a hdev _ hj) hk

/-- Waiting at a cell below all that is owed, and closing the cell: what its round pays and the counter at zero. -/
theorem wait_close {c : Dev nD} {g : Cell} {D : List Due} (hlev : ∀ d ∈ D, level g < level d.cell) {w : TpuEff nD τ sig (Elt F) Λ₀ .tc PUnit} {j : Nat}
    (hw : ∀ K : PUnit → sProp 𝕄, wpE (defs₀ (F := F)) 𝒱₀ (c : Thread nD τ) none Set.univ w K = waitSpec (c : Thread nD τ) Set.univ (csem g) j K)
    (hj : j = total g) {α : Type} {Q : α → sProp 𝕄} {k : PUnit → Prog (TpuEff nD τ sig (Elt F) Λ₀ .tc) α} :
    iprop(known m ∗ cred (tallyAt (kcell c g) () (total g)) ∗ atPos ER (kcell c g) 0 ∅ 0 ∗ ∃ W, owes (c : Thread nD τ) (owedL c D) W)
      ⊢ iprop(((semVal (kcell c g) 0 ∗ bigSep ((sched (F := F) m).duties (kcell c g) 0 \ ∅) (fun d => (sched (F := F) m).payload (kcell c g) 0 d)
          ∗ ∃ W, owes (c : Thread nD τ) (owedL c D) W) -∗ WP c (k ⟨⟩) Q) -∗ WP c (.op w k) Q) := by
  subst hj
  unfold known
  iintro ⟨⟨⟨%K, #HK⟩, #Hlev⟩, Hc, Hat, ⟨%W, HO⟩⟩ Hk
  ihave #Hi := (records_inv m K c g) $$ HK
  iapply (Rounds.wp_wait_rest_token 𝒱₀ ER (sched m) (c : Thread nD τ) none (sm := csem g) (κ := K (c, g)) hw (Set.mem_univ _) ()
      (O := owedL c D) (W := W) (R := 0) (m := 0) (T := ∅) (by rw [Nat.zero_add]; exact (expect_cell m c g).symm)) $$ [Hc HO Hat]
  · isplitr; · iexact Hi
    isplitl [Hc]; · iexact Hc
    isplitl [HO]; · iexact HO
    isplitr; · iapply (mayWait_of c g D hlev); iexact Hlev
    iexact Hat
  iintro ⟨HO, Hat, -, Hpay⟩
  imod (Rounds.cell_close ER (sched m) (Set.mem_univ (K (c, g))) (fun h => h) (R := 0 + 1) (duties_later m (kcell c g))) $$ [Hat] with Hz
  · isplitr; · iexact Hi
    iexact Hat
  iapply Hk
  isplitl [Hz]; · iexact Hz
  isplitl [Hpay]; · iexact Hpay
  iexists _; iexact HO

/-- The wait for the neighbours' signals gives the rows on the neighbours to send to. -/
theorem barrier_does {c : Dev nD} {D : List Due} (hok : (Step.barrier).ok ((Step.barrier).pays ++ D) = true)
    {α : Type} {Q : α → sProp 𝕄} {k : PUnit → Prog (TpuEff nD τ sig (Elt F) Λ₀ .tc) α} {j : Nat} (hj : j = 3) :
    Does m c .barrier (owedL c D) (WP c (.op (.semWait barS j) k) Q) (WP c (k ⟨⟩) Q) := by
  subst hj
  have hlev : ∀ d ∈ D, level none < level d.cell := by
    intro d hd
    have h := (Bool.and_eq_true _ _).mp hok
    exact of_decide_eq_true (List.all_eq_true.mp h.2 d hd)
  have hpay : bigSep ((sched (F := F) m).duties (kcell c none) 0 \ ∅) (fun d => (sched (F := F) m).payload (kcell c none) 0 d)
      ⊢ bigSepL (axes.flatMap fun a => slots.map fun k => Res.landing a k) (res m c) := by
    rw [rest_bar, bigSep_univ_eq_bigSepL axes (by decide) (by decide)]
    show bigSepL axes _ ⊢ bigSepL (axes.flatMap _) _
    induction axes with
    | nil => exact BI.Entails.refl _
    | cons a l ih =>
      rw [bigSepL_cons', List.flatMap_cons, bigSepL_append]
      refine sep_mono (Entails.of_eq ?_) ih
      unfold barPay
      rw [bigSepL_map, bigSep_univ_eq_bigSepL slots (by decide) (by decide)]
      rfl
  unfold Does
  rw [show (Step.barrier).pays = [] from rfl, owedL_nil, zero_add,
    show bigSepL (Step.barrier).need (res m c) = iprop(cred (tallyAt (kcell c none) () (total none)) ∗ atPos ER (kcell c none) 0 ∅ 0)
      from by unfold Step.need; rw [bigSepL_cons_cons, bigSepL_singleton]; rfl,
    show bigSepL (Step.barrier).give (res m c) = iprop(semVal (kcell c none) 0 ∗ bigSepL (axes.flatMap fun a => slots.map fun k => Res.landing a k) (res m c))
      from bigSepL_cons' _ _ _]
  iintro ⟨#Hkn, ⟨Hc, Hat⟩, Ho⟩ Hk
  iapply (wait_close m (g := none) hlev (wpE_semWait_eq 𝒱₀ (c : Thread nD τ) none Set.univ) rfl) $$ [Hc Hat Ho]
  · isplitr; · iexact Hkn
    isplitl [Hc]; · iexact Hc
    isplitl [Hat] <;> iassumption
  iintro ⟨Hz, Hp, Ho⟩
  iapply Hk
  isplitl [Hz Hp]
  · isplitl [Hz]; · iexact Hz
    iapply hpay; iexact Hp
  · iexact Ho

/-- The same between states. -/
theorem barrier_step {c : Dev nD} {n : Nat} (h : plan[n]? = some .barrier)
    {α : Type} {Q : α → sProp 𝕄} {k : PUnit → Prog (TpuEff nD τ sig (Elt F) Λ₀ .tc) α} {j : Nat} (hj : j = 3)
    (hk : bag m c (stAt (n + 1)) ⊢ WP c (k ⟨⟩) Q) : bag m c (stAt n) ⊢ WP c (.op (.semWait barS j) k) Q :=
  step_of m h (fun D hok => barrier_does m hok hj) hk

/-! ## Waits of transfers -/

/-- A wait at the DMA cell `g`. -/
theorem dmaWait_does {c : Dev nD} (g : Bool × Fin 3 × Fin 9) {e : Step} (hn : e.need = [.cred (some g), .pos (some g)]) (hp : e.pays = [])
    (hg : bigSepL e.give (res m c) = iprop(semVal (kcell c (some g)) 0 ∗ dmaPay m c g)) (hw : e.waits = some (some g)) {D : List Due}
    (hok : e.ok (e.pays ++ D) = true) {sp : Space} {s : Shape} {et : EltTy} {src dst : Memref sig .tc sp s et} {q : DmaSem sig} (hq : q = dsem g)
    (hc : dst.view.dmaCredit = total (some g)) {hs : src.view.WordExact} {hd : dst.view.WordExact}
    {α : Type} {Q : α → sProp 𝕄} {k : PUnit → Prog (TpuEff nD τ sig (Elt F) Λ₀ .tc) α} :
    Does m c e (owedL c D) (WP c (.op (.waitDma2 q src dst hs hd) k) Q) (WP c (k ⟨⟩) Q) := by
  subst hq
  have hlev : ∀ d ∈ D, level (some g) < level d.cell := by
    intro d hd
    have h := (Bool.and_eq_true _ _).mp hok
    rw [hw, hp] at h
    exact of_decide_eq_true (List.all_eq_true.mp h.2 d hd)
  unfold Does
  rw [hp, owedL_nil, zero_add, hn, hg, bigSepL_cons_cons, bigSepL_singleton]
  show iprop(known m ∗ (cred (tallyAt (kcell c (some g)) () (total (some g))) ∗ atPos ER (kcell c (some g)) 0 ∅ 0) ∗ _) ⊢ _
  iintro ⟨#Hkn, ⟨Hc, Hat⟩, Ho⟩ Hk
  iapply (wait_close m (g := some g) hlev (wpE_waitDma2_eq 𝒱₀ (c : Thread nD τ) none Set.univ) hc) $$ [Hc Hat Ho]
  · isplitr; · iexact Hkn
    isplitl [Hc]; · iexact Hc
    isplitl [Hat] <;> iassumption
  iintro ⟨Hz, Hp, Ho⟩
  iapply Hk
  isplitl [Hz Hp]
  · isplitl [Hz]; · iexact Hz
    ihave Hp := (Entails.of_eq (rest_dma m c g)) $$ Hp
    iexact Hp
  · iexact Ho

/-- The wait for a transfer to have left gives back what it read. -/
theorem sent_step {c : Dev nD} {n : Nat} (a : Fin 3) (i : Fin 9) (h : plan[n]? = some (.sent a i)) {sp : Space} {s : Shape} {et : EltTy}
    {src dst : Memref sig .tc sp s et} {q : DmaSem sig} (hq : q = dsem (false, a, i)) (hc : dst.view.dmaCredit = total (some (false, a, i)))
    {hs : src.view.WordExact} {hd : dst.view.WordExact} {α : Type} {Q : α → sProp 𝕄} {k : PUnit → Prog (TpuEff nD τ sig (Elt F) Λ₀ .tc) α}
    (hk : bag m c (stAt (n + 1)) ⊢ WP c (k ⟨⟩) Q) : bag m c (stAt n) ⊢ WP c (.op (.waitDma2 q src dst hs hd) k) Q :=
  step_of m h (fun D hok => dmaWait_does m (false, a, i) rfl rfl (by unfold Step.give; rw [bigSepL_cons_cons, bigSepL_singleton]; rfl) rfl hok hq hc) hk

/-- The wait for a transfer to have come gives the rows it landed in. -/
theorem recv_step {c : Dev nD} {n : Nat} (a : Fin 3) (i : Fin 9) (h : plan[n]? = some (.recv a i)) {sp : Space} {s : Shape} {et : EltTy}
    {src dst : Memref sig .tc sp s et} {q : DmaSem sig} (hq : q = dsem (true, a, i)) (hc : dst.view.dmaCredit = total (some (true, a, i)))
    {hs : src.view.WordExact} {hd : dst.view.WordExact} {α : Type} {Q : α → sProp 𝕄} {k : PUnit → Prog (TpuEff nD τ sig (Elt F) Λ₀ .tc) α}
    (hk : bag m c (stAt (n + 1)) ⊢ WP c (k ⟨⟩) Q) : bag m c (stAt n) ⊢ WP c (.op (.waitDma2 q src dst hs hd) k) Q :=
  step_of m h (fun D hok => dmaWait_does m (true, a, i) rfl rfl (by unfold Step.give; rw [bigSepL_cons_cons, bigSepL_singleton]; rfl) rfl hok hq hc) hk

/-! ## Transfers -/

/-- A transfer takes the rows it reads and the rows it lands in, and pays both cells. -/
theorem send_does {c : Dev nD} (a : Fin 3) (i : Fin 9) {lo N : Nat} (hlo : lo = (src a i).row c) (hN : N = (src a i).n) (hle : lo + N ≤ 8192) {dev : Dev nD} (hdev : dev = nb a c)
    {s r : DmaSem sig} (hs : s = dsem (false, a, i)) (hr : r = dsem (true, a, i)) {O : CellTallies nD τ sig Unit} {hsc} {hsrc} {hdst} {hsem}
    {α : Type} {Q : α → sProp 𝕄} {k : PUnit → Prog (TpuEff nD τ sig (Elt F) Λ₀ .tc) α} :
    Does m c (.send a i) O (WP c (.op (.enqueueDma (rowM lo N hle) (.remote (Dev.tc dev) (rowM lo N hle) (.dma s) hsc) (.dma r) hsrc hdst hsem) k) Q) (WP c (k ⟨⟩) Q) := by
  subst hdev hs hr hlo hN
  have heq (d : Dev nD) (q : PosShare TreeShare) (f : Buf (Elt F) (oLoc d)) : rows d q ((src a i).row c) (src a i).n f
      = ((rowM ((src a i).row c) (src a i).n hle).view.loc (d : Thread nD τ) ↦[(rowM ((src a i).row c) (src a i).n hle).view.set]{q} f) := by
    rw [set_rowM]; rfl
  have hpay₁ : ((rowM ((src a i).row c) (src a i).n hle).view.loc (c : Thread nD τ) ↦[(rowM ((src a i).row c) (src a i).n hle).view.set]{(kindOf a i).share} outAt m c)
      ⊢ (sched m).payload ((c : Thread nD τ), .dma (dsem (false, a, i))) 0 0 := by
    rw [show ((c : Thread nD τ), SemLoc.dma (dsem (false, a, i))) = kcell c (some (false, a, i)) from rfl, payload_cell, set_rowM]
    show _ ⊢ held m c (kindOf a i) (src a i)
    rw [held_of m c (kindOf_ne a i)]
    exact BI.Entails.refl _
  have hpay₂ (fd : Buf (Elt F) (oLoc (nb a c))) :
      ((rowM ((src a i).row c) (src a i).n hle).view.loc (nb a c : Thread nD τ) ↦[(rowM ((src a i).row c) (src a i).n hle).view.set]{fullShare}
        (rowM ((src a i).row c) (src a i).n hle).view.write (Elt F) fd ((rowM ((src a i).row c) (src a i).n hle).view.read (Elt F) (outAt m c)) Finset.univ)
      ⊢ (sched m).payload ((nb a c : Thread nD τ), .dma (dsem (true, a, i))) 0 0 := by
    rw [show ((nb a c : Thread nD τ), SemLoc.dma (dsem (true, a, i))) = kcell (nb a c) (some (true, a, i)) from rfl, payload_cell, set_rowM]
    show _ ⊢ rows (nb a c) fullShare ((land a i).row (nb a c)) (land a i).n (outAt m (nb a c))
    rw [row_land, n_land]
    refine Entails.of_eq (rows_congr (nb a c) fullShare ((src a i).row c) (src a i).n fun x hlo hhi => ?_)
    exact (write_read _ _ hle fd (outAt m c) x hlo hhi).trans (outAt_land m a i c x hlo hhi).symm
  unfold Does known
  rw [show bigSepL (Step.send a i).need (res m c) = iprop((dutyTok ER (kcell c (some (false, a, i))) 0 0 ∗ dutyTok ER (kcell (nb a c) (some (true, a, i))) 0 0)
      ∗ held m (nb a c) .junk (land a i) ∗ held m c (kindOf a i) (src a i))
      from by unfold Step.need; rw [bigSepL_cons_cons, bigSepL_cons_cons, bigSepL_singleton]; rfl,
    show bigSepL (Step.send a i).give (res m c) = cred (tallyAt ((c : Thread nD τ), .dma (dsem (false, a, i))) () (unit (some (false, a, i))))
      from by unfold Step.give; rw [bigSepL_singleton]; rfl,
    held_of m c (kindOf_ne a i), heq c]
  rw [show held m (nb a c) .junk (land a i) = iprop(∃ f, rows (nb a c) fullShare ((land a i).row (nb a c)) (land a i).n f) from rfl, row_land, n_land]
  have hamt : (rowM ((src a i).row c) (src a i).n hle).view.amount (.dma (dsem (true, a, i))) = unit (some (false, a, i)) := rfl
  have key (fd : Buf (Elt F) (oLoc (nb a c))) (K : Dev nD × Cell → ℕ) (W : Waits sig Unit) :=
    Rounds.wp_send_pointsTo 𝒱₀ ER (sched m) (c : Thread nD τ) none (c' := (nb a c : Thread nD τ)) (κ₁ := K (c, some (false, a, i))) (κ₂ := K (nb a c, some (true, a, i)))
      (r₁ := 0) (r₂ := 0) (d₁ := 0) (d₂ := 0) (fs := outAt m c) (fd := fd) (q := (kindOf a i).share) (src := rowM ((src a i).row c) (src a i).n hle)
      (dst := rowM ((src a i).row c) (src a i).n hle) (hsc := hsc) (hsrc := hsrc) (hdst := hdst) (hsem := hsem)
      (sS := .dma (dsem (false, a, i))) (sem := .dma (dsem (true, a, i)))
      (by rw [show ((c : Thread nD τ), SemLoc.dma (dsem (false, a, i))) = kcell c (some (false, a, i)) from rfl, duties_cell]; exact Finset.mem_singleton_self _)
      (by rw [show ((nb a c : Thread nD τ), SemLoc.dma (dsem (true, a, i))) = kcell (nb a c) (some (true, a, i)) from rfl, duties_cell]; exact Finset.mem_singleton_self _)
      () () (unit (some (false, a, i))) hamt (amount_cell m c (some (false, a, i)) 0) (amount_cell m (nb a c) (some (true, a, i)) 0)
      O (O₀ := owedL c (Step.send a i).pays + O) (by rw [add_comm]; congr 1; exact (owedL_cons c _ []).trans (by rw [owedL_nil, zero_add]; rfl)) (W := W)
      hpay₁ (hpay₂ fd) (Es := Set.univ) (Q := Q) (k := k) (defs := defs₀ (F := F)) (Γ := ∅)
  iintro ⟨⟨⟨%K, #HK⟩, #Hlev⟩, ⟨⟨Ht₁, Ht₂⟩, ⟨%fd, Hd⟩, Hs⟩, ⟨%W, HO⟩⟩ Hk
  ihave #Hi₁ := (records_inv m K c (some (false, a, i))) $$ HK
  ihave #Hr₁ := (records_reached m K c (some (false, a, i))) $$ HK
  ihave #Hi₂ := (records_inv m K (nb a c) (some (true, a, i))) $$ HK
  ihave #Hr₂ := (records_reached m K (nb a c) (some (true, a, i))) $$ HK
  iapply (key fd K W) $$ [Hs Hd HO Ht₁ Ht₂]
  · isplitr; · iexact Hi₁
    isplitr; · iexact Hi₂
    isplitl [Hs]; · iexact Hs
    isplitl [Hd]; · rw [← heq (nb a c)]; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- Transfer `i` along axis `a`: rows of the result, from the same rows of the neighbour's. -/
theorem send_step {c : Dev nD} {n : Nat} (a : Fin 3) (i : Fin 9) (h : plan[n]? = some (.send a i)) (N : Nat) (hN : N = (src a i).n)
    {off : Fin 2 → Nat} (ho : off = ![(src a i).row c, 0])
    {inb : ∀ a : Fin 2, off a + (![N, 1024] : Fin 2 → Nat) a ≤ (![8192, 1024] : Fin 2 → Nat) a} {dev : Dev nD} (hdev : dev.val = (nb a c).val)
    {s r : DmaSem sig} (hs : s = dsem (false, a, i)) (hr : r = dsem (true, a, i)) {hu hu' hsc hsrc hdst hsem}
    {α : Type} {Q : α → sProp 𝕄} {k : PUnit → Prog (TpuEff nD τ sig (Elt F) Λ₀ .tc) α}
    (hk : bag m c (stAt (n + 1)) ⊢ WP c (k ⟨⟩) Q) :
    bag m c (stAt n) ⊢ WP c (.op (.enqueueDma ((oM : Memref sig .tc .vmem S8192x1024 .bf16).slice (Rect.unit (s := S8192x1024) off ![N, 1024] inb) hu)
      (.remote (Dev.tc dev) ((oM : Memref sig .tc .vmem S8192x1024 .bf16).slice (Rect.unit (s := S8192x1024) off ![N, 1024] inb) hu') (.dma s) hsc)
      (.dma r) hsrc hdst hsem) k) Q := by
  subst ho
  refine step_of m h (fun D _ => ?_) hk
  exact send_does m a i rfl hN (hN ▸ Piece.row_le c (src_in a i)) (Fin.ext hdev) hs hr

/-! ## Stores -/

/-- A copy from the shard gives its rows of the result their final contents. -/
theorem store_does {c : Dev nD} (p : Piece) (hown : p.own = true) (hin : p.lo + p.n ≤ 1024) (hx : p.row c % 4096 + p.n ≤ 4096) (hle : p.row c + p.n ≤ 8192)
    {O : CellTallies nD τ sig Unit} (pay : ((rowsShape p.n).Idx → Elt F .bf16) → ((rowsShape p.n).Idx → Elt F .bf16)) (hpay : ∀ v, pay v = v) {hl hl' hs hst}
    {α : Type} {Q : α → sProp 𝕄} {k : ((rowsShape p.n).Idx → Elt F .bf16) → ((rowsShape p.n).Idx → Elt F .bf16) → PUnit → Prog (TpuEff nD τ sig (Elt F) Λ₀ .tc) α}
    {P : sProp 𝕄} (hk : ∀ v w, P ⊢ WP c (k v w ⟨⟩) Q) :
    Does m c (.store p) O (WP c (.op (.load (xM : Memref sig .tc .vmem S4096x1024 .bf16) (Rect.unit (s := S4096x1024) ![p.row c % 4096, 0] ![p.n, 1024] (row_inb hx)).toLoadRect hl) fun v =>
      .op (.load (oM : Memref sig .tc .vmem S8192x1024 .bf16) (Rect.unit (s := S8192x1024) ![p.row c, 0] ![p.n, 1024] (row_inb hle)).toLoadRect hl') fun w =>
      .op (.store (oM : Memref sig .tc .vmem S8192x1024 .bf16) (Rect.unit (s := S8192x1024) ![p.row c, 0] ![p.n, 1024] (row_inb hle)) (pay v) Finset.univ hs hst) (k v w)) Q) P := by
  have hw (f : Buf (Elt F) (oLoc c)) :
      ((oLoc c) ↦[(rowSet (p.row c) p.n : Finset (Idx (oLoc c)))]{fullShare}
        ((oM : Memref sig .tc .vmem S8192x1024 .bf16).access (Rect.unit (s := S8192x1024) ![p.row c, 0] ![p.n, 1024] (row_inb hle))).write (Elt F) f
          ((xM : Memref sig .tc .vmem S4096x1024 .bf16).view.readAt (Elt F)
            (Rect.unit (s := S4096x1024) ![p.row c % 4096, 0] ![p.n, 1024] (row_inb hx)).toLoadRect (xstg m c)) Finset.univ : sProp 𝕄)
      ⊢ (oLoc c) ↦[(rowSet (p.row c) p.n : Finset (Idx (oLoc c)))]{fullShare} outAt m c :=
    Entails.of_eq (rows_congr c fullShare (p.row c) p.n fun x hlo hhi => write_shard m c p hown hin hx hle f x hlo hhi)
  unfold Does
  rw [show (Step.store p).pays = [] from rfl, owedL_nil, zero_add,
    show bigSepL (Step.store p).need (res m c) = iprop(((xLoc c) ↦{fullShare} xstg m c) ∗ ∃ f, rows c fullShare (p.row c) p.n f)
      from by unfold Step.need; rw [bigSepL_cons_cons, bigSepL_singleton]; rfl,
    show bigSepL (Step.store p).give (res m c) = iprop(((xLoc c) ↦{fullShare} xstg m c) ∗ rows c fullShare (p.row c) p.n (outAt m c))
      from by unfold Step.give; rw [bigSepL_cons_cons, bigSepL_singleton]; rfl]
  iintro ⟨-, ⟨Hx, ⟨%f, Hf⟩⟩, Ho⟩ Hk
  iapply (wp_load 𝒱₀ (c : Thread nD τ) none Set.univ (m := xM) (Finset.subset_univ _)) $$ Hx; iintro Hx
  unfold rows
  iapply (wp_load_rect 𝒱₀ (c : Thread nD τ) none Set.univ (m := oM) (subset_of_eq (set_access hle))) $$ Hf; iintro Hf
  iapply (wp_store 𝒱₀ (c : Thread nD τ) none Set.univ (m := oM) (Mk := Finset.univ) (subset_of_eq (set_access hle))) $$ Hf; iintro Hf
  iapply hk
  iapply Hk
  isplitl [Hx Hf]
  · isplitl [Hx]; · iexact Hx
    rw [hpay]
    iapply (hw f); iexact Hf
  · iexact Ho

/-- The load of rows of the shard, the load of the result's rows that nothing uses, and the store. -/
theorem store_step {c : Dev nD} {n : Nat} (p : Piece) (h : plan[n]? = some (.store p)) (N : Nat) (hN : N = p.n)
    {off off' : Fin 2 → Nat} (ho : off = ![p.row c % 4096, 0]) (ho' : off' = ![p.row c, 0])
    {inb : ∀ a : Fin 2, off a + (![N, 1024] : Fin 2 → Nat) a ≤ (![4096, 1024] : Fin 2 → Nat) a}
    {inb' : ∀ a : Fin 2, off' a + (![N, 1024] : Fin 2 → Nat) a ≤ (![8192, 1024] : Fin 2 → Nat) a}
    (pay : ((rowsShape N).Idx → Elt F .bf16) → ((rowsShape N).Idx → Elt F .bf16)) (hpay : ∀ v, pay v = v) {hl hl' hs hst}
    {α : Type} {Q : α → sProp 𝕄} {k : ((rowsShape N).Idx → Elt F .bf16) → ((rowsShape N).Idx → Elt F .bf16) → PUnit → Prog (TpuEff nD τ sig (Elt F) Λ₀ .tc) α}
    (hk : ∀ v w, bag m c (stAt (n + 1)) ⊢ WP c (k v w ⟨⟩) Q) :
    bag m c (stAt n) ⊢ WP c (.op (.load (xM : Memref sig .tc .vmem S4096x1024 .bf16) (Rect.unit (s := S4096x1024) off ![N, 1024] inb).toLoadRect hl) fun v =>
      .op (.load (oM : Memref sig .tc .vmem S8192x1024 .bf16) (Rect.unit (s := S8192x1024) off' ![N, 1024] inb').toLoadRect hl') fun w =>
      .op (.store (oM : Memref sig .tc .vmem S8192x1024 .bf16) (Rect.unit (s := S8192x1024) off' ![N, 1024] inb') (pay v) Finset.univ hs hst) (k v w)) Q := by
  subst ho ho' hN
  refine step_of m h (fun D hok => ?_) (BI.Entails.refl _)
  have hok' : (p.own && decide (p.lo + p.n ≤ 1024)) = true := by
    have h := (Bool.and_eq_true _ _).mp hok
    exact h.1
  have h2 := (Bool.and_eq_true _ _).mp hok'
  exact store_does m p h2.1 (of_decide_eq_true h2.2) (inb 0) (inb' 0) pay hpay hk

end Cert.KernelProof

end
-- ==== Proof.Body.lean ====
/-
The body, one rule of `Steps` per operation in program order, part by part.
-/
module

public import proofs.«01_k».proof.Proof.Steps

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ UU ℕ

/-- From state `s` the part runs to state `s'`. -/
abbrev Runs (c : Dev nD) (i j : Nat) {α : Type} (p : Prog (TpuEff nD τ sig (Elt F) Λ₀ .tc) α) : Prop :=
  bag m c (stAt i) ⊢ WP c p fun _ => bag m c (stAt j)

/-- The end of a part. -/
theorem done {c : Dev nD} {i : Nat} {α : Type} {v : α} : Runs (F := F) m c i i (.ret v) := by
  unfold Runs WP
  rw [wp_ret]
  iintro H
  imodintro
  iexact H

/-- A part and what follows it. -/
theorem Runs.bind {c : Dev nD} {i j : Nat} {α β : Type} {p : Prog (TpuEff nD τ sig (Elt F) Λ₀ .tc) α} {k : α → Prog (TpuEff nD τ sig (Elt F) Λ₀ .tc) β}
    (h : Runs m c i j p) {Q : β → sProp 𝕄} (hk : ∀ a, bag m c (stAt j) ⊢ WP c (k a) Q) : bag m c (stAt i) ⊢ WP c (p >>= k) Q := by
  unfold WP
  rw [Idealize.SL.Sem.wp_bind]
  exact h.trans (Idealize.SL.Sem.wp_mono _ _ _ hk)

variable (c : Dev nD) (h0 : (xM : Memref sig .tc .vmem S4096x1024 .bf16).IsWhole) (h1 : (oM : Memref sig .tc .vmem S8192x1024 .bf16).IsWhole)

/-- The signals to the three neighbours, the barrier, and the first chunk written. -/
theorem part2 {v2 v5 v8 v20 v28 v31 v32 v34 : BitVec 32} :
    Runs (F := F) m c 0 5 (k0_part2 xM h0 oM h1 cc0_scratch0 cc0_scratch1 cc0_scratch2 cc0_scratch3 cc0_scratch4 cc0_scratch5 c v2 v5 v8 v20 v28 v31 v32 (SemArray.scalar (sig.barrier 0 rfl)) v34) := by
  rw [k0_part2_eq_skeleton]; unfold k0_part2_skel
  simp only [semSignalWord, semWaitWord, Prog.lift, Prog.bind_op, Prog.bind_ret, Prog.pure_eq_ret]
  refine signal_step m 0 (by decide +kernel) (Fin.ext ((by decide +kernel : ∀ c, k0_dev1 c = (nb 0 c).val) c)) rfl ?_
  refine signal_step m 1 (by decide +kernel) (Fin.ext ((by decide +kernel : ∀ c, k0_dev2 c = (nb 1 c).val) c)) rfl ?_
  refine signal_step m 2 (by decide +kernel) (Fin.ext ((by decide +kernel : ∀ c, k0_dev3 c = (nb 2 c).val) c)) rfl ?_
  refine barrier_step m (by decide +kernel) rfl ?_
  refine store_step m (chunk 0) (by decide +kernel) 128 rfl (off1_eq c 0) (off2_eq c 0) k0_pay1 (fun v => shapeCast_self v _) fun _ _ => ?_
  exact done m

/-- The first chunks sent across y. -/
theorem part3 {v2 v8 v20 v28 v52 c8_i32_38 : BitVec 32} :
    Runs (F := F) m c 5 8 (k0_part3 xM h0 oM h1 cc0_scratch0 cc0_scratch1 cc0_scratch2 cc0_scratch3 cc0_scratch4 cc0_scratch5 c v2 v8 v20 v28 v52 c8_i32_38) := by
  rw [k0_part3_eq_skeleton]; unfold k0_part3_skel
  simp only [semSignalWord, semWaitWord, Prog.lift, Prog.bind_op, Prog.bind_ret, Prog.pure_eq_ret]
  refine send_step m 0 0 (by decide +kernel) 128 rfl (off3_eq c 0) ((by decide +kernel : ∀ c, k0_dev4 c = (nb 0 c).val) c) rfl rfl ?_
  refine store_step m (chunk 1) (by decide +kernel) 128 rfl (off1_eq c 1) (off2_eq c 1) k0_pay2 (fun v => shapeCast_self v _) fun _ _ => ?_
  refine send_step m 0 1 (by decide +kernel) 128 rfl (off3_eq c 1) ((by decide +kernel : ∀ c, k0_dev5 c = (nb 0 c).val) c) rfl rfl ?_
  exact done m

/-- More chunks of role 0 written and sent across y. -/
theorem part4 {v2 v8 v20 v28 v52 v100 : BitVec 32} :
    Runs (F := F) m c 8 11 (k0_part4 xM h0 oM h1 cc0_scratch0 cc0_scratch1 cc0_scratch2 cc0_scratch3 cc0_scratch4 cc0_scratch5 c v2 v8 v20 v28 v52 v100) := by
  rw [k0_part4_eq_skeleton]; unfold k0_part4_skel
  simp only [semSignalWord, semWaitWord, Prog.lift, Prog.bind_op, Prog.bind_ret, Prog.pure_eq_ret]
  refine store_step m (chunk 2) (by decide +kernel) 128 rfl (off1_eq c 2) (off2_eq c 2) k0_pay3 (fun v => shapeCast_self v _) fun _ _ => ?_
  refine send_step m 0 2 (by decide +kernel) 128 rfl (off3_eq c 2) ((by decide +kernel : ∀ c, k0_dev6 c = (nb 0 c).val) c) rfl rfl ?_
  refine store_step m (chunk 3) (by decide +kernel) 128 rfl (off1_eq c 3) (off2_eq c 3) k0_pay4 (fun v => shapeCast_self v _) fun _ _ => ?_
  exact done m

/-- More chunks of role 0 written and sent across y. -/
theorem part5 {v2 v8 v20 v28 v52 : BitVec 32} :
    Runs (F := F) m c 11 15 (k0_part5 xM h0 oM h1 cc0_scratch0 cc0_scratch1 cc0_scratch2 cc0_scratch3 cc0_scratch4 cc0_scratch5 c v2 v8 v20 v28 v52) := by
  rw [k0_part5_eq_skeleton]; unfold k0_part5_skel
  simp only [semSignalWord, semWaitWord, Prog.lift, Prog.bind_op, Prog.bind_ret, Prog.pure_eq_ret]
  refine send_step m 0 3 (by decide +kernel) 128 rfl (off3_eq c 3) ((by decide +kernel : ∀ c, k0_dev7 c = (nb 0 c).val) c) rfl rfl ?_
  refine store_step m (chunk 4) (by decide +kernel) 128 rfl (off1_eq c 4) (off2_eq c 4) k0_pay5 (fun v => shapeCast_self v _) fun _ _ => ?_
  refine send_step m 0 4 (by decide +kernel) 128 rfl (off3_eq c 4) ((by decide +kernel : ∀ c, k0_dev8 c = (nb 0 c).val) c) rfl rfl ?_
  refine store_step m (chunk 5) (by decide +kernel) 128 rfl (off1_eq c 5) (off2_eq c 5) k0_pay6 (fun v => shapeCast_self v _) fun _ _ => ?_
  exact done m

/-- More chunks of role 0 written and sent across y. -/
theorem part6 {v2 v8 v20 v28 v52 c8_i32_92 : BitVec 32} :
    Runs (F := F) m c 15 18 (k0_part6 xM h0 oM h1 cc0_scratch0 cc0_scratch1 cc0_scratch2 cc0_scratch3 cc0_scratch4 cc0_scratch5 c v2 v8 v20 v28 v52 c8_i32_92) := by
  rw [k0_part6_eq_skeleton]; unfold k0_part6_skel
  simp only [semSignalWord, semWaitWord, Prog.lift, Prog.bind_op, Prog.bind_ret, Prog.pure_eq_ret]
  refine send_step m 0 5 (by decide +kernel) 128 rfl (off3_eq c 5) ((by decide +kernel : ∀ c, k0_dev9 c = (nb 0 c).val) c) rfl rfl ?_
  refine store_step m (chunk 6) (by decide +kernel) 128 rfl (off1_eq c 6) (off2_eq c 6) k0_pay7 (fun v => shapeCast_self v _) fun _ _ => ?_
  refine send_step m 0 6 (by decide +kernel) 128 rfl (off3_eq c 6) ((by decide +kernel : ∀ c, k0_dev10 c = (nb 0 c).val) c) rfl rfl ?_
  exact done m

/-- The last chunk sent across y, and the first part of the cut quarter written. -/
theorem part7 {v2 v8 v21 v28 v52 v210 : BitVec 32} :
    Runs (F := F) m c 18 21 (k0_part7 xM h0 oM h1 cc0_scratch0 cc0_scratch1 cc0_scratch2 cc0_scratch3 cc0_scratch4 cc0_scratch5 c v2 v8 v21 v28 v52 v210) := by
  rw [k0_part7_eq_skeleton]; unfold k0_part7_skel
  simp only [semSignalWord, semWaitWord, Prog.lift, Prog.bind_op, Prog.bind_ret, Prog.pure_eq_ret]
  refine store_step m (chunk 7) (by decide +kernel) 128 rfl (off1_eq c 7) (off2_eq c 7) k0_pay8 (fun v => shapeCast_self v _) fun _ _ => ?_
  refine send_step m 0 7 (by decide +kernel) 128 rfl (off3_eq c 7) ((by decide +kernel : ∀ c, k0_dev11 c = (nb 0 c).val) c) rfl rfl ?_
  refine store_step m ⟨true, 1, 0, 576⟩ (by decide +kernel) 576 rfl (off4_eq c) (off5_eq c) k0_pay9 (fun v => shapeCast_self v _) fun _ _ => ?_
  exact done m

/-- That part sent across y, and the first chunk from across y received. -/
theorem part8 {v2 v5 v8 v20 v21 v24 v27 v28 v54 : BitVec 32} :
    Runs (F := F) m c 21 23 (k0_part8 xM h0 oM h1 cc0_scratch0 cc0_scratch1 cc0_scratch2 cc0_scratch3 cc0_scratch4 cc0_scratch5 c v2 v5 v8 v20 v21 v24 v27 v28 v54) := by
  rw [k0_part8_eq_skeleton]; unfold k0_part8_skel
  simp only [semSignalWord, semWaitWord, Prog.lift, Prog.bind_op, Prog.bind_ret, Prog.pure_eq_ret]
  refine send_step m 0 8 (by decide +kernel) 576 rfl (off6_eq c) ((by decide +kernel : ∀ c, k0_dev12 c = (nb 0 c).val) c) rfl rfl ?_
  refine recv_step m 0 0 (by decide +kernel) rfl rfl ?_
  exact done m

/-- It is passed on across z and x; half of a quarter is written. -/
theorem part9 {v2 v5 v8 v20 v28 v31 v32 v52 v54 v253 v278 v279 : BitVec 32} :
    Runs (F := F) m c 23 27 (k0_part9 xM h0 oM h1 cc0_scratch0 cc0_scratch1 cc0_scratch2 cc0_scratch3 cc0_scratch4 cc0_scratch5 c v2 v5 v8 v20 v28 v31 v32 v52 v54 v253 v278 v279) := by
  rw [k0_part9_eq_skeleton]; unfold k0_part9_skel
  simp only [semSignalWord, semWaitWord, Prog.lift, Prog.bind_op, Prog.bind_ret, Prog.pure_eq_ret]
  refine fork_step m (p := land 0 0) (by decide +kernel) ?_
  refine send_step m 1 0 (by decide +kernel) 128 rfl (off7_eq c 0) ((by decide +kernel : ∀ c, k0_dev13 c = (nb 1 c).val) c) rfl rfl ?_
  refine send_step m 2 0 (by decide +kernel) 128 rfl (off7_eq c 0) ((by decide +kernel : ∀ c, k0_dev14 c = (nb 2 c).val) c) rfl rfl ?_
  refine store_step m ⟨true, 2, 0, 512⟩ (by decide +kernel) 512 rfl (off8_eq c) (off9_eq c) k0_pay10 (fun v => shapeCast_self v _) fun _ _ => ?_
  exact done m

/-- The next chunk received and passed on; the other half of the quarter written. -/
theorem part10 {v2 v5 v8 v20 v31 v32 v52 v255 : BitVec 32} :
    Runs (F := F) m c 27 32 (k0_part10 xM h0 oM h1 cc0_scratch0 cc0_scratch1 cc0_scratch2 cc0_scratch3 cc0_scratch4 cc0_scratch5 c v2 v5 v8 v20 v31 v32 v52 v255) := by
  rw [k0_part10_eq_skeleton]; unfold k0_part10_skel
  simp only [semSignalWord, semWaitWord, Prog.lift, Prog.bind_op, Prog.bind_ret, Prog.pure_eq_ret]
  refine recv_step m 0 1 (by decide +kernel) rfl rfl ?_
  refine fork_step m (p := land 0 1) (by decide +kernel) ?_
  refine send_step m 1 1 (by decide +kernel) 128 rfl (off7_eq c 1) ((by decide +kernel : ∀ c, k0_dev15 c = (nb 1 c).val) c) rfl rfl ?_
  refine send_step m 2 1 (by decide +kernel) 128 rfl (off7_eq c 1) ((by decide +kernel : ∀ c, k0_dev16 c = (nb 2 c).val) c) rfl rfl ?_
  refine store_step m ⟨true, 2, 512, 512⟩ (by decide +kernel) 512 rfl (off10_eq c) (off11_eq c) k0_pay11 (fun v => shapeCast_self v _) fun _ _ => ?_
  exact done m

/-- A chunk received and passed on across z. -/
theorem part11 {v2 v5 v8 v28 v31 v32 v54 v350 : BitVec 32} :
    Runs (F := F) m c 32 35 (k0_part11 xM h0 oM h1 cc0_scratch0 cc0_scratch1 cc0_scratch2 cc0_scratch3 cc0_scratch4 cc0_scratch5 c v2 v5 v8 v28 v31 v32 v54 v350) := by
  rw [k0_part11_eq_skeleton]; unfold k0_part11_skel
  simp only [semSignalWord, semWaitWord, Prog.lift, Prog.bind_op, Prog.bind_ret, Prog.pure_eq_ret]
  refine recv_step m 0 2 (by decide +kernel) rfl rfl ?_
  refine fork_step m (p := land 0 2) (by decide +kernel) ?_
  refine send_step m 1 2 (by decide +kernel) 128 rfl (off7_eq c 2) ((by decide +kernel : ∀ c, k0_dev17 c = (nb 1 c).val) c) rfl rfl ?_
  exact done m

/-- It is passed on across x; half of a quarter is written, and the next chunk received and passed on across z. -/
theorem part12 {v2 v5 v8 v20 v28 v31 v52 v54 v256 : BitVec 32} :
    Runs (F := F) m c 35 40 (k0_part12 xM h0 oM h1 cc0_scratch0 cc0_scratch1 cc0_scratch2 cc0_scratch3 cc0_scratch4 cc0_scratch5 c v2 v5 v8 v20 v28 v31 v52 v54 v256) := by
  rw [k0_part12_eq_skeleton]; unfold k0_part12_skel
  simp only [semSignalWord, semWaitWord, Prog.lift, Prog.bind_op, Prog.bind_ret, Prog.pure_eq_ret]
  refine send_step m 2 2 (by decide +kernel) 128 rfl (off7_eq c 2) ((by decide +kernel : ∀ c, k0_dev18 c = (nb 2 c).val) c) rfl rfl ?_
  refine store_step m ⟨true, 3, 0, 512⟩ (by decide +kernel) 512 rfl (off12_eq c) (off13_eq c) k0_pay12 (fun v => shapeCast_self v _) fun _ _ => ?_
  refine recv_step m 0 3 (by decide +kernel) rfl rfl ?_
  refine fork_step m (p := land 0 3) (by decide +kernel) ?_
  refine send_step m 1 3 (by decide +kernel) 128 rfl (off7_eq c 3) ((by decide +kernel : ∀ c, k0_dev19 c = (nb 1 c).val) c) rfl rfl ?_
  exact done m

/-- It is passed on across x; the other half is written, and the next chunk received. -/
theorem part13 {v2 v5 v8 v20 v28 v32 v52 v54 v258 : BitVec 32} :
    Runs (F := F) m c 40 43 (k0_part13 xM h0 oM h1 cc0_scratch0 cc0_scratch1 cc0_scratch2 cc0_scratch3 cc0_scratch4 cc0_scratch5 c v2 v5 v8 v20 v28 v32 v52 v54 v258) := by
  rw [k0_part13_eq_skeleton]; unfold k0_part13_skel
  simp only [semSignalWord, semWaitWord, Prog.lift, Prog.bind_op, Prog.bind_ret, Prog.pure_eq_ret]
  refine send_step m 2 3 (by decide +kernel) 128 rfl (off7_eq c 3) ((by decide +kernel : ∀ c, k0_dev20 c = (nb 2 c).val) c) rfl rfl ?_
  refine store_step m ⟨true, 3, 512, 512⟩ (by decide +kernel) 512 rfl (off14_eq c) (off15_eq c) k0_pay13 (fun v => shapeCast_self v _) fun _ _ => ?_
  refine recv_step m 0 4 (by decide +kernel) rfl rfl ?_
  exact done m

/-- It is passed on; the second part of the cut quarter is written. -/
theorem part14 {v2 v5 v8 v20 v28 v31 v32 v52 v54 v260 v450 v451 : BitVec 32} :
    Runs (F := F) m c 43 47 (k0_part14 xM h0 oM h1 cc0_scratch0 cc0_scratch1 cc0_scratch2 cc0_scratch3 cc0_scratch4 cc0_scratch5 c v2 v5 v8 v20 v28 v31 v32 v52 v54 v260 v450 v451) := by
  rw [k0_part14_eq_skeleton]; unfold k0_part14_skel
  simp only [semSignalWord, semWaitWord, Prog.lift, Prog.bind_op, Prog.bind_ret, Prog.pure_eq_ret]
  refine fork_step m (p := land 0 4) (by decide +kernel) ?_
  refine send_step m 1 4 (by decide +kernel) 128 rfl (off7_eq c 4) ((by decide +kernel : ∀ c, k0_dev21 c = (nb 1 c).val) c) rfl rfl ?_
  refine send_step m 2 4 (by decide +kernel) 128 rfl (off7_eq c 4) ((by decide +kernel : ∀ c, k0_dev22 c = (nb 2 c).val) c) rfl rfl ?_
  refine store_step m ⟨true, 1, 576, 224⟩ (by decide +kernel) 224 rfl (off16_eq c) (off17_eq c) k0_pay14 (fun v => shapeCast_self v _) fun _ _ => ?_
  exact done m

/-- A chunk received and passed on; the third part of the cut quarter written. -/
theorem part15 {v2 v5 v8 v20 v31 v32 v52 v263 : BitVec 32} :
    Runs (F := F) m c 47 52 (k0_part15 xM h0 oM h1 cc0_scratch0 cc0_scratch1 cc0_scratch2 cc0_scratch3 cc0_scratch4 cc0_scratch5 c v2 v5 v8 v20 v31 v32 v52 v263) := by
  rw [k0_part15_eq_skeleton]; unfold k0_part15_skel
  simp only [semSignalWord, semWaitWord, Prog.lift, Prog.bind_op, Prog.bind_ret, Prog.pure_eq_ret]
  refine recv_step m 0 5 (by decide +kernel) rfl rfl ?_
  refine fork_step m (p := land 0 5) (by decide +kernel) ?_
  refine send_step m 1 5 (by decide +kernel) 128 rfl (off7_eq c 5) ((by decide +kernel : ∀ c, k0_dev23 c = (nb 1 c).val) c) rfl rfl ?_
  refine send_step m 2 5 (by decide +kernel) 128 rfl (off7_eq c 5) ((by decide +kernel : ∀ c, k0_dev24 c = (nb 2 c).val) c) rfl rfl ?_
  refine store_step m ⟨true, 1, 800, 224⟩ (by decide +kernel) 224 rfl (off18_eq c) (off19_eq c) k0_pay15 (fun v => shapeCast_self v _) fun _ _ => ?_
  exact done m

/-- A chunk received and passed on across z. -/
theorem part16 {v2 v5 v8 v28 v31 v32 v54 v522 : BitVec 32} :
    Runs (F := F) m c 52 55 (k0_part16 xM h0 oM h1 cc0_scratch0 cc0_scratch1 cc0_scratch2 cc0_scratch3 cc0_scratch4 cc0_scratch5 c v2 v5 v8 v28 v31 v32 v54 v522) := by
  rw [k0_part16_eq_skeleton]; unfold k0_part16_skel
  simp only [semSignalWord, semWaitWord, Prog.lift, Prog.bind_op, Prog.bind_ret, Prog.pure_eq_ret]
  refine recv_step m 0 6 (by decide +kernel) rfl rfl ?_
  refine fork_step m (p := land 0 6) (by decide +kernel) ?_
  refine send_step m 1 6 (by decide +kernel) 128 rfl (off7_eq c 6) ((by decide +kernel : ∀ c, k0_dev25 c = (nb 1 c).val) c) rfl rfl ?_
  exact done m

/-- It is passed on across x; the last chunk is received and passed on across z. -/
theorem part17 {v2 v5 v8 v20 v28 v31 v32 v54 : BitVec 32} :
    Runs (F := F) m c 55 59 (k0_part17 xM h0 oM h1 cc0_scratch0 cc0_scratch1 cc0_scratch2 cc0_scratch3 cc0_scratch4 cc0_scratch5 c v2 v5 v8 v20 v28 v31 v32 v54) := by
  rw [k0_part17_eq_skeleton]; unfold k0_part17_skel
  simp only [semSignalWord, semWaitWord, Prog.lift, Prog.bind_op, Prog.bind_ret, Prog.pure_eq_ret]
  refine send_step m 2 6 (by decide +kernel) 128 rfl (off7_eq c 6) ((by decide +kernel : ∀ c, k0_dev26 c = (nb 2 c).val) c) rfl rfl ?_
  refine recv_step m 0 7 (by decide +kernel) rfl rfl ?_
  refine fork_step m (p := land 0 7) (by decide +kernel) ?_
  refine send_step m 1 7 (by decide +kernel) 128 rfl (off7_eq c 7) ((by decide +kernel : ∀ c, k0_dev27 c = (nb 1 c).val) c) rfl rfl ?_
  exact done m

/-- It is passed on across x; two chunks from across x are received. -/
theorem part18 {v5 v8 v32 v587 v588 : BitVec 32} :
    Runs (F := F) m c 59 62 (k0_part18 xM h0 oM h1 cc0_scratch0 cc0_scratch1 cc0_scratch2 cc0_scratch3 cc0_scratch4 cc0_scratch5 c v5 v8 v32 v587 v588) := by
  rw [k0_part18_eq_skeleton]; unfold k0_part18_skel
  simp only [semSignalWord, semWaitWord, Prog.lift, Prog.bind_op, Prog.bind_ret, Prog.pure_eq_ret]
  refine send_step m 2 7 (by decide +kernel) 128 rfl (off7_eq c 7) ((by decide +kernel : ∀ c, k0_dev28 c = (nb 2 c).val) c) rfl rfl ?_
  refine recv_step m 2 4 (by decide +kernel) rfl rfl ?_
  refine recv_step m 2 5 (by decide +kernel) rfl rfl ?_
  exact done m

/-- The rows of the second part of the cut quarter are regrouped and sent across z. -/
theorem part19 {v2 v5 v27 v31 v54 : BitVec 32} :
    Runs (F := F) m c 62 69 (k0_part19 xM h0 oM h1 cc0_scratch0 cc0_scratch1 cc0_scratch2 cc0_scratch3 cc0_scratch4 cc0_scratch5 c v2 v5 v27 v31 v54) := by
  rw [k0_part19_eq_skeleton]; unfold k0_part19_skel
  simp only [semSignalWord, semWaitWord, Prog.lift, Prog.bind_op, Prog.bind_ret, Prog.pure_eq_ret]
  refine recv_step m 2 6 (by decide +kernel) rfl rfl ?_
  refine cut_step m (p := land 2 4) (l := 64) (by decide +kernel) ?_
  refine cut_step m (p := land 2 6) (l := 32) (by decide +kernel) ?_
  refine glue_step m (p := ⟨false, 3, 576, 192⟩) (l := 64) (by decide +kernel) ?_
  refine glue_step m (p := ⟨false, 3, 576, 224⟩) (l := 192) (by decide +kernel) ?_
  refine send_step m 1 8 (by decide +kernel) 224 rfl (off20_eq c) ((by decide +kernel : ∀ c, k0_dev29 c = (nb 1 c).val) c) rfl rfl ?_
  refine recv_step m 1 6 (by decide +kernel) rfl rfl ?_
  exact done m

/-- The rows of the third part are regrouped and sent across x; the waits of the transfers across y begin. -/
theorem part20 {v5 v8 v24 v31 v32 v54 v652 v653 : BitVec 32} :
    Runs (F := F) m c 69 75 (k0_part20 xM h0 oM h1 cc0_scratch0 cc0_scratch1 cc0_scratch2 cc0_scratch3 cc0_scratch4 cc0_scratch5 c v5 v8 v24 v31 v32 v54 v652 v653) := by
  rw [k0_part20_eq_skeleton]; unfold k0_part20_skel
  simp only [semSignalWord, semWaitWord, Prog.lift, Prog.bind_op, Prog.bind_ret, Prog.pure_eq_ret]
  refine recv_step m 1 7 (by decide +kernel) rfl rfl ?_
  refine cut_step m (p := land 1 6) (l := 32) (by decide +kernel) ?_
  refine glue_step m (p := ⟨false, 2, 800, 224⟩) (l := 96) (by decide +kernel) ?_
  refine send_step m 2 8 (by decide +kernel) 224 rfl (off21_eq c) ((by decide +kernel : ∀ c, k0_dev30 c = (nb 2 c).val) c) rfl rfl ?_
  refine sent_step m 0 0 (by decide +kernel) rfl rfl ?_
  refine sent_step m 0 1 (by decide +kernel) rfl rfl ?_
  exact done m

/-- Waits of transfers across y. -/
theorem part21 :
    Runs (F := F) m c 75 81 (k0_part21 xM h0 oM h1 cc0_scratch0 cc0_scratch1 cc0_scratch2 cc0_scratch3 cc0_scratch4 cc0_scratch5 c) := by
  rw [k0_part21_eq_skeleton]; unfold k0_part21_skel
  simp only [semSignalWord, semWaitWord, Prog.lift, Prog.bind_op, Prog.bind_ret, Prog.pure_eq_ret]
  refine sent_step m 0 2 (by decide +kernel) rfl rfl ?_
  refine sent_step m 0 3 (by decide +kernel) rfl rfl ?_
  refine sent_step m 0 4 (by decide +kernel) rfl rfl ?_
  refine sent_step m 0 5 (by decide +kernel) rfl rfl ?_
  refine sent_step m 0 6 (by decide +kernel) rfl rfl ?_
  refine sent_step m 0 7 (by decide +kernel) rfl rfl ?_
  exact done m

/-- The last waits along y and the first along z. -/
theorem part22 {v2 v5 v8 v28 v31 : BitVec 32} :
    Runs (F := F) m c 81 85 (k0_part22 xM h0 oM h1 cc0_scratch0 cc0_scratch1 cc0_scratch2 cc0_scratch3 cc0_scratch4 cc0_scratch5 c v2 v5 v8 v28 v31) := by
  rw [k0_part22_eq_skeleton]; unfold k0_part22_skel
  simp only [semSignalWord, semWaitWord, Prog.lift, Prog.bind_op, Prog.bind_ret, Prog.pure_eq_ret]
  refine sent_step m 0 8 (by decide +kernel) rfl rfl ?_
  refine recv_step m 0 8 (by decide +kernel) rfl rfl ?_
  refine sent_step m 1 0 (by decide +kernel) rfl rfl ?_
  refine recv_step m 1 0 (by decide +kernel) rfl rfl ?_
  exact done m

/-- Waits along z. -/
theorem part23 {v2 v5 v31 : BitVec 32} :
    Runs (F := F) m c 85 89 (k0_part23 xM h0 oM h1 cc0_scratch0 cc0_scratch1 cc0_scratch2 cc0_scratch3 cc0_scratch4 cc0_scratch5 c v2 v5 v31) := by
  rw [k0_part23_eq_skeleton]; unfold k0_part23_skel
  simp only [semSignalWord, semWaitWord, Prog.lift, Prog.bind_op, Prog.bind_ret, Prog.pure_eq_ret]
  refine sent_step m 1 1 (by decide +kernel) rfl rfl ?_
  refine recv_step m 1 1 (by decide +kernel) rfl rfl ?_
  refine sent_step m 1 2 (by decide +kernel) rfl rfl ?_
  refine recv_step m 1 2 (by decide +kernel) rfl rfl ?_
  exact done m

/-- Waits along z. -/
theorem part24 {v2 v5 v31 : BitVec 32} :
    Runs (F := F) m c 89 93 (k0_part24 xM h0 oM h1 cc0_scratch0 cc0_scratch1 cc0_scratch2 cc0_scratch3 cc0_scratch4 cc0_scratch5 c v2 v5 v31) := by
  rw [k0_part24_eq_skeleton]; unfold k0_part24_skel
  simp only [semSignalWord, semWaitWord, Prog.lift, Prog.bind_op, Prog.bind_ret, Prog.pure_eq_ret]
  refine sent_step m 1 3 (by decide +kernel) rfl rfl ?_
  refine recv_step m 1 3 (by decide +kernel) rfl rfl ?_
  refine sent_step m 1 4 (by decide +kernel) rfl rfl ?_
  refine recv_step m 1 4 (by decide +kernel) rfl rfl ?_
  exact done m

/-- Waits along z. -/
theorem part25 {v2 v5 v31 : BitVec 32} :
    Runs (F := F) m c 93 98 (k0_part25 xM h0 oM h1 cc0_scratch0 cc0_scratch1 cc0_scratch2 cc0_scratch3 cc0_scratch4 cc0_scratch5 c v2 v5 v31) := by
  rw [k0_part25_eq_skeleton]; unfold k0_part25_skel
  simp only [semSignalWord, semWaitWord, Prog.lift, Prog.bind_op, Prog.bind_ret, Prog.pure_eq_ret]
  refine sent_step m 1 5 (by decide +kernel) rfl rfl ?_
  refine recv_step m 1 5 (by decide +kernel) rfl rfl ?_
  refine sent_step m 1 6 (by decide +kernel) rfl rfl ?_
  refine sent_step m 1 7 (by decide +kernel) rfl rfl ?_
  refine sent_step m 1 8 (by decide +kernel) rfl rfl ?_
  exact done m

/-- The last wait along z and the first along x. -/
theorem part26 {v5 v8 v31 v32 v821 c1_i32_569 : BitVec 32} :
    Runs (F := F) m c 98 102 (k0_part26 xM h0 oM h1 cc0_scratch0 cc0_scratch1 cc0_scratch2 cc0_scratch3 cc0_scratch4 cc0_scratch5 c v5 v8 v31 v32 v821 c1_i32_569) := by
  rw [k0_part26_eq_skeleton]; unfold k0_part26_skel
  simp only [semSignalWord, semWaitWord, Prog.lift, Prog.bind_op, Prog.bind_ret, Prog.pure_eq_ret]
  refine recv_step m 1 8 (by decide +kernel) rfl rfl ?_
  refine sent_step m 2 0 (by decide +kernel) rfl rfl ?_
  refine recv_step m 2 0 (by decide +kernel) rfl rfl ?_
  refine sent_step m 2 1 (by decide +kernel) rfl rfl ?_
  exact done m

/-- Waits along x. -/
theorem part27 {v5 v8 v32 : BitVec 32} :
    Runs (F := F) m c 102 106 (k0_part27 xM h0 oM h1 cc0_scratch0 cc0_scratch1 cc0_scratch2 cc0_scratch3 cc0_scratch4 cc0_scratch5 c v5 v8 v32) := by
  rw [k0_part27_eq_skeleton]; unfold k0_part27_skel
  simp only [semSignalWord, semWaitWord, Prog.lift, Prog.bind_op, Prog.bind_ret, Prog.pure_eq_ret]
  refine recv_step m 2 1 (by decide +kernel) rfl rfl ?_
  refine sent_step m 2 2 (by decide +kernel) rfl rfl ?_
  refine recv_step m 2 2 (by decide +kernel) rfl rfl ?_
  refine sent_step m 2 3 (by decide +kernel) rfl rfl ?_
  exact done m

/-- Waits along x. -/
theorem part28 {v5 v8 v32 : BitVec 32} :
    Runs (F := F) m c 106 111 (k0_part28 xM h0 oM h1 cc0_scratch0 cc0_scratch1 cc0_scratch2 cc0_scratch3 cc0_scratch4 cc0_scratch5 c v5 v8 v32) := by
  rw [k0_part28_eq_skeleton]; unfold k0_part28_skel
  simp only [semSignalWord, semWaitWord, Prog.lift, Prog.bind_op, Prog.bind_ret, Prog.pure_eq_ret]
  refine recv_step m 2 3 (by decide +kernel) rfl rfl ?_
  refine sent_step m 2 4 (by decide +kernel) rfl rfl ?_
  refine sent_step m 2 5 (by decide +kernel) rfl rfl ?_
  refine sent_step m 2 6 (by decide +kernel) rfl rfl ?_
  refine sent_step m 2 7 (by decide +kernel) rfl rfl ?_
  exact done m

/-- A device reads its own id. -/
theorem deviceId_step {c : Dev nD} {n : Nat} {α : Type} {Q : α → sProp 𝕄} {k : Dev nD → Prog (TpuEff nD τ sig (Elt F) Λ₀ .tc) α}
    (hk : bag m c (stAt n) ⊢ WP c (k c) Q) : bag m c (stAt n) ⊢ WP c (.op .deviceId k) Q := by
  refine hk.trans (Entails.of_eq ?_)
  unfold WP
  rw [wp_deviceId]

/-- The first part only computes the device's coordinates. -/
theorem part1_bind {β : Type} {k : _ → Prog (TpuEff nD τ sig (Elt F) Λ₀ .tc) β} {Q : β → sProp 𝕄}
    (hk : ∀ v2 v5 v8 v20 v21 v24 v27 v28 v31 v32 v34 : BitVec 32,
      bag m c (stAt 0) ⊢ WP c (k ⟨c, v2, v5, v8, v20, v21, v24, v27, v28, v31, v32, SemArray.scalar (sig.barrier 0 rfl), v34⟩) Q) :
    bag m c (stAt 0) ⊢ WP c (k0_part1 (F := F) xM h0 oM h1 cc0_scratch0 cc0_scratch1 cc0_scratch2 cc0_scratch3 cc0_scratch4 cc0_scratch5 >>= k) Q := by
  rw [k0_part1_eq_skeleton]; unfold k0_part1_skel
  simp only [Prog.lift, Prog.bind_op, Prog.bind_ret, Prog.pure_eq_ret]
  exact deviceId_step m (hk _ _ _ _ _ _ _ _ _ _ _)

/-- The whole body, all its parts in order. -/
theorem body_steps : Runs (F := F) m c 0 122 (cc0_body xM h0 oM h1 cc0_scratch0 cc0_scratch1 cc0_scratch2 cc0_scratch3 cc0_scratch4 cc0_scratch5) := by
  rw [cc0_body_eq_skeleton]; unfold cc0_body_skel
  rw [k0_part29_eq_skeleton]; unfold k0_part29_skel
  rw [Prog.bind_assoc]
  refine part1_bind m c h0 h1 fun v2 v5 v8 v20 v21 v24 v27 v28 v31 v32 v34 => ?_
  simp only [Prog.bind_assoc]
  refine Runs.bind m (part2 m c h0 h1) fun ⟨v52, v54, c8⟩ => ?_
  refine Runs.bind m (part3 m c h0 h1) fun v100 => ?_
  refine Runs.bind m (part4 m c h0 h1) fun _ => ?_
  refine Runs.bind m (part5 m c h0 h1) fun c8' => ?_
  refine Runs.bind m (part6 m c h0 h1) fun v210 => ?_
  refine Runs.bind m (part7 m c h0 h1) fun _ => ?_
  refine Runs.bind m (part8 m c h0 h1) fun ⟨v253, v255, v256, v258, v260, v263, v278, v279⟩ => ?_
  refine Runs.bind m (part9 m c h0 h1) fun _ => ?_
  refine Runs.bind m (part10 m c h0 h1) fun v350 => ?_
  refine Runs.bind m (part11 m c h0 h1) fun _ => ?_
  refine Runs.bind m (part12 m c h0 h1) fun _ => ?_
  refine Runs.bind m (part13 m c h0 h1) fun ⟨v450, v451⟩ => ?_
  refine Runs.bind m (part14 m c h0 h1) fun _ => ?_
  refine Runs.bind m (part15 m c h0 h1) fun v522 => ?_
  refine Runs.bind m (part16 m c h0 h1) fun _ => ?_
  refine Runs.bind m (part17 m c h0 h1) fun ⟨v587, v588⟩ => ?_
  refine Runs.bind m (part18 m c h0 h1) fun _ => ?_
  refine Runs.bind m (part19 m c h0 h1) fun ⟨v652, v653⟩ => ?_
  refine Runs.bind m (part20 m c h0 h1) fun _ => ?_
  refine Runs.bind m (part21 m c h0 h1) fun _ => ?_
  refine Runs.bind m (part22 m c h0 h1) fun _ => ?_
  refine Runs.bind m (part23 m c h0 h1) fun _ => ?_
  refine Runs.bind m (part24 m c h0 h1) fun _ => ?_
  refine Runs.bind m (part25 m c h0 h1) fun ⟨v821, c1⟩ => ?_
  refine Runs.bind m (part26 m c h0 h1) fun _ => ?_
  refine Runs.bind m (part27 m c h0 h1) fun _ => ?_
  refine Runs.bind m (part28 m c h0 h1) fun _ => ?_
  simp only [Prog.lift, Prog.bind_op, Prog.bind_ret, Prog.pure_eq_ret]
  refine recv_step m 2 7 (by decide +kernel) rfl rfl ?_
  refine sent_step m 2 8 (by decide +kernel) rfl rfl ?_
  refine recv_step m 2 8 (by decide +kernel) rfl rfl ?_
  refine unfork_step m (p := land 0 0) (by decide +kernel) ?_
  refine unfork_step m (p := land 0 1) (by decide +kernel) ?_
  refine unfork_step m (p := land 0 2) (by decide +kernel) ?_
  refine unfork_step m (p := land 0 3) (by decide +kernel) ?_
  refine unfork_step m (p := land 0 4) (by decide +kernel) ?_
  refine unfork_step m (p := land 0 5) (by decide +kernel) ?_
  refine unfork_step m (p := land 0 6) (by decide +kernel) ?_
  refine unfork_step m (p := land 0 7) (by decide +kernel) ?_
  exact done m

end Cert.KernelProof

end
-- ==== Proof.Whole.lean ====
/-
The whole result as the pieces the plan starts from and ends with.
-/
module

public import proofs.«01_k».proof.Proof.Rows

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ UU ℕ

/-- No rows. -/
theorem rows_none (c : Dev nD) (q : PosShare TreeShare) (lo : Nat) (f : Buf (Elt F) (oLoc c)) : rows c q lo 0 f = iprop(emp) := by
  unfold rows
  rw [show (rowSet lo 0 : Finset (Idx (oLoc c))) = ∅ from Finset.eq_empty_of_forall_notMem fun i hi => by
    have := mem_rowSet.mp hi; omega]
  exact pointsTo_empty

/-- Pieces laid end to end are one range of rows. -/
theorem rows_tiles (c : Dev nD) (own : Bool) (r : Fin 4) (f : Buf (Elt F) (oLoc c)) : ∀ (ns : List Nat) (lo : Nat),
    bigSepL (tiles own r lo ns) (fun p => rows c fullShare (p.row c) p.n f) = rows c fullShare (1024 * blk c own r + lo) ns.sum f
  | [], lo => (rows_none c fullShare _ f).symm
  | n :: ns, lo => by
    unfold tiles
    rw [bigSepL_cons', rows_tiles c own r f ns (lo + n), List.sum_cons, rows_split, Nat.add_assoc]
    congr 1

/-- A list of lists, list by list. -/
theorem bigSepL_flatMap {I J : Type} (t : J → List I) (Φ : I → sProp 𝕄) : ∀ l : List J,
    bigSepL (l.flatMap t) Φ = bigSepL l fun j => bigSepL (t j) Φ
  | [] => rfl
  | j :: l => by rw [List.flatMap_cons, bigSepL_append, bigSepL_cons', bigSepL_flatMap t Φ l]

/-- The eight blocks, all of their rows, are the whole result. -/
theorem whole_blocks (c : Dev nD) (f : Buf (Elt F) (oLoc c)) :
    ((oLoc c) ↦{fullShare} f : sProp 𝕄) = bigSepL blocks fun b => rows c fullShare (1024 * blk c b.1 b.2) 1024 f := by
  rw [← bigSep_univ_eq_bigSepL blocks (by decide) (by decide)]
  unfold rows
  have hd : ∀ b ∈ (Finset.univ : Finset (Bool × Fin 4)), ∀ b' ∈ (Finset.univ : Finset (Bool × Fin 4)), b ≠ b' →
      Disjoint (rowSet (1024 * blk c b.1 b.2) 1024 : Finset (Idx (oLoc c))) (rowSet (1024 * blk c b'.1 b'.2) 1024) := by
    rintro ⟨o, r⟩ - ⟨o', r'⟩ - hne
    refine Finset.disjoint_left.mpr fun i hi hi' => hne (blk_inj c o o' r r' ?_)
    have h1 := mem_rowSet.mp hi
    have h2 := mem_rowSet.mp hi'
    dsimp only at h1 h2
    omega
  refine (congrArg (fun S : Finset (Idx (oLoc c)) => ((oLoc c) ↦[S]{fullShare} f : sProp 𝕄)) (Finset.eq_univ_of_forall fun i => ?_).symm).trans
    (pointsTo_biUnion Finset.univ _ hd)
  have hi : (i 0).val < 8192 := (i 0).isLt
  obtain ⟨own, r, hb⟩ := blk_bij c ⟨(i 0).val / 1024, by omega⟩
  refine Finset.mem_biUnion.mpr ⟨(own, r), Finset.mem_univ _, mem_rowSet.mpr ?_⟩
  show 1024 * blk c own r ≤ (i 0).val ∧ (i 0).val < 1024 * blk c own r + 1024
  rw [hb]
  show 1024 * ((i 0).val / 1024) ≤ (i 0).val ∧ (i 0).val < 1024 * ((i 0).val / 1024) + 1024
  omega

/-- The whole result, cut into pieces whose lengths add up to a block in every block. -/
theorem whole_pieces (c : Dev nD) {lens : Bool → Fin 4 → List Nat} (h : ∀ o r, (lens o r).sum = 1024) (f : Buf (Elt F) (oLoc c)) :
    ((oLoc c) ↦{fullShare} f : sProp 𝕄) = bigSepL (pieces lens) fun p => rows c fullShare (p.row c) p.n f := by
  rw [whole_blocks]
  unfold pieces
  rw [bigSepL_flatMap]
  congr 1
  funext b
  rw [rows_tiles, h]
  rfl

/-- The pieces of the start fill each block, -/
theorem lens₀_sum : ∀ o r, (lens₀ o r).sum = 1024 := by decide
/-- and so do those of the end. -/
theorem lens₁_sum : ∀ o r, (lens₁ o r).sum = 1024 := by decide

/-- The result at any contents gives the pieces of the start. -/
theorem pieces_intro (c : Dev nD) (f : Buf (Elt F) (oLoc c)) :
    ((oLoc c) ↦{fullShare} f : sProp 𝕄) ⊢ bigSepL ((pieces lens₀).map (.mem .junk)) (res m c) := by
  rw [bigSepL_map, whole_pieces c lens₀_sum f]
  refine bigSepL_mono fun p _ => ?_
  show rows c fullShare (p.row c) p.n f ⊢ iprop(∃ f, rows c fullShare (p.row c) p.n f)
  iintro H
  iexists f
  iexact H

/-- The pieces of the end are the result at its final contents. -/
theorem pieces_elim (c : Dev nD) :
    bigSepL ((pieces lens₁).map (.mem .full)) (res m c) ⊢ ((oLoc c) ↦{fullShare} outAt m c : sProp 𝕄) := by
  rw [bigSepL_map, whole_pieces c lens₁_sum (outAt m c)]
  exact Entails.of_eq rfl

end Cert.KernelProof

end
-- ==== Proof.Deal.lean ====
/-
How what the launch mints reaches the devices: the counters, the tokens and the credits of a device's own cells, and
who gets them.
-/
module

public import proofs.«01_k».proof.Proof.Steps

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Cells and semaphores -/

/-- The kernel's own semaphores. -/
def osem (g : Bool × Fin 3 × Fin 9) : SemLoc sig := csem (some g)

/-- They are scoped, distinct, and none of them is a staging semaphore. -/
theorem ownSemFacts : Pipeline.OwnSemFacts cfg0.spec osem where
  isScoped := by decide +kernel
  inj := fun g g' h => Option.some.inj (csem_inj h)
  disj := by decide +kernel

/-- The cells in a row, as a list. -/
theorem bigSep_cells (Φ : Cell → sProp 𝕄) : bigSep Finset.univ Φ = bigSepL allCells Φ :=
  bigSep_univ_eq_bigSepL allCells (by decide +kernel) (by decide +kernel) Φ
/-- The DMA cells, as a list. -/
theorem bigSep_dma (Φ : Bool × Fin 3 × Fin 9 → sProp 𝕄) : bigSep Finset.univ Φ = bigSepL dmaCells Φ :=
  bigSep_univ_eq_bigSepL dmaCells (by decide +kernel) (by decide +kernel) Φ
/-- The transfers, as a list. -/
theorem bigSep_transfers (Φ : Fin 3 × Fin 9 → sProp 𝕄) : bigSep Finset.univ Φ = bigSepL transfers Φ :=
  bigSep_univ_eq_bigSepL transfers (by decide +kernel) (by decide +kernel) Φ
/-- The axes, as a list. -/
theorem bigSep_axes (Φ : Fin 3 → sProp 𝕄) : bigSep Finset.univ Φ = bigSepL axes Φ :=
  bigSep_univ_eq_bigSepL axes (by decide) (by decide) Φ

/-- All cells are the barrier and the DMA cells. -/
theorem cells_split (Φ : Cell → sProp 𝕄) : bigSep Finset.univ Φ = iprop(Φ none ∗ bigSep Finset.univ fun g => Φ (some g)) := by
  rw [bigSep_cells, bigSep_dma, allCells, bigSepL_cons', bigSepL_map]

/-- The kernel's own counters at zero, cell by cell. -/
theorem ownSems0_eq (c : Dev nD) : (Pipeline.ownSems0 (Ix := Unit) (Name := ℕ) (U := UU) (Lvl := ℕ) (Val := Elt F) (τ := τ) osem c : sProp 𝕄)
    = bigSep Finset.univ fun g => semVal (kcell c (some g)) 0 := by
  unfold Pipeline.ownSems0; rfl
/-- The only counter outside the launch is the barrier's. -/
theorem unscopedSems0_eq (c : Dev nD) : (unscopedSems0 c : sProp 𝕄) = semVal (kcell c none) 0 := by
  unfold unscopedSems0; rw [bigSep_eq_bigSepL_of_eq [SemLoc.reg barS] (by decide +kernel) (by decide)]; rfl

/-- The kernel's own semaphores and the runtime's barrier are the counters of all cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun g : Cell => semVal (kcell c g) 0 : sProp 𝕄) := by
  rw [ownSems0_eq, unscopedSems0_eq, cells_split]

/-- Different cells, on whatever devices, are different counters. -/
theorem kcell_injective : Function.Injective (fun x : Dev nD × Cell => kcell x.1 x.2) := by
  rintro ⟨c, g⟩ ⟨c', g'⟩ h
  obtain ⟨h1, h2⟩ := kcell_inj h
  subst h1 h2; rfl
/-- The cells of all devices. -/
def meshCells : Finset (GSem nD τ sig) := Finset.univ.map ⟨_, kcell_injective⟩

/-- Different duties have different tokens. -/
theorem tokOf_injective : Function.Injective (fun x : Dev nD × Cell × Fin 3 => ((kcell x.1 x.2.1, 0, x.2.2) : GSem nD τ sig × ℕ × Fin 3)) := by
  rintro ⟨c, g, d⟩ ⟨c', g', d'⟩ h
  obtain ⟨h1, h2⟩ := kcell_inj (congrArg Prod.fst h)
  have h3 : d = d' := congrArg (fun x : GSem nD τ sig × ℕ × Fin 3 => x.2.2) h
  subst h1 h2 h3; rfl
/-- A duty token of every name at every cell. -/
def meshToks : Finset (GSem nD τ sig × ℕ × Fin 3) := Finset.univ.map ⟨_, tokOf_injective⟩

/-- The ghost state at launch: the pipeline's own and the schedule's. -/
def u₀ : UU := (initOf (Pipeline.cells cfgs cellOf_inj) (Pipeline.launchToks cfgs cellOf_inj), initOf meshCells meshToks)

/-! ## What the launch mints -/

/-- The duty tokens of a device's own cells. -/
def toks (c : Dev nD) : sProp 𝕄 := bigSep Finset.univ fun g : Cell => bigSep Finset.univ fun d : Fin 3 => dutyTok ER (kcell c g) 0 d

/-- What is minted for a device. -/
def G (c : Dev nD) : sProp 𝕄 :=
  iprop((bigSep Finset.univ fun g : Cell => roundState ER (sched m) (kcell c g) 0)
    ∗ (bigSep Finset.univ fun g : Cell => iprop(atPos ER (kcell c g) 0 ∅ 0 ∗ reached ER (kcell c g) 0)) ∗ toks c)

/-- The schedule's ghost state, dealt out by device. -/
theorem fund : BI.own (ER (initOf meshCells meshToks)) ⊢ (|==> bigSep Finset.univ (G (F := F) m) : sProp 𝕄) := by
  have hX (Φ : GSem nD τ sig → sProp 𝕄) : bigSep meshCells Φ = bigSep Finset.univ fun c : Dev nD => bigSep Finset.univ fun g : Cell => Φ (kcell c g) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_prod]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens go to the devices that pay -/

/-- The tokens of the duties a device pays. -/
def payToks (c : Dev nD) : sProp 𝕄 :=
  iprop(bigSepL (axes.map .barTok) (res m c) ∗ bigSepL (transfers.map fun t => .tok t.1 t.2) (res m c))

/-- Handing each resource to the neighbour along its axis only renames the devices. -/
theorem deal {T : Type} [Fintype T] (ax : T → Fin 3) (Φ : Dev nD → T → sProp 𝕄) :
    (bigSep Finset.univ fun c : Dev nD => bigSep Finset.univ fun t => Φ c t)
      = bigSep Finset.univ fun c : Dev nD => bigSep Finset.univ fun t => Φ (nb (ax t) c) t := by
  rw [bigSep_univ_comm, bigSep_univ_comm (fun (c : Dev nD) t => Φ (nb (ax t) c) t)]
  exact bigSep_congr fun t _ => bigSep_univ_equiv (pair (ax t)) fun c => Φ c t

/-- A device's own tokens, the needed ones sorted: the barrier's, the send cells', the receive cells'. -/
theorem toks_sorted (c : Dev nD) : (toks c : sProp 𝕄) ⊢ iprop((bigSep Finset.univ fun a : Fin 3 => dutyTok ER (kcell c none) 0 a)
    ∗ (bigSep Finset.univ fun t : Fin 3 × Fin 9 => dutyTok ER (kcell c (some (false, t.1, t.2))) 0 0)
    ∗ bigSep Finset.univ fun t : Fin 3 × Fin 9 => dutyTok ER (kcell c (some (true, t.1, t.2))) 0 0) := by
  unfold toks
  rw [cells_split]
  have h : (bigSep Finset.univ fun g : Bool × Fin 3 × Fin 9 => bigSep Finset.univ fun d : Fin 3 => dutyTok ER (kcell c (some g)) 0 d : sProp 𝕄)
      ⊢ bigSep Finset.univ fun g => dutyTok ER (kcell c (some g)) 0 0 := bigSep_mono fun g _ => bigSep_elim (Finset.mem_univ (0 : Fin 3))
  refine sep_mono_right (h.trans ?_)
  rw [bigSep_univ_prod, bigSep_univ_eq_bigSepL [false, true] (by decide) (by decide)]
  exact Entails.of_eq rfl

/-- The tokens of a device's own cells go to those who pay there. -/
theorem toks_around : (bigSep Finset.univ fun c : Dev nD => (toks c : sProp 𝕄)) ⊢ bigSep Finset.univ fun c : Dev nD => payToks m c := by
  refine (bigSep_mono fun c _ => toks_sorted c).trans ?_
  rw [bigSep_sep', bigSep_sep', deal (fun a => a) fun c a => (dutyTok ER (kcell c none) 0 a : sProp 𝕄),
    deal Prod.fst fun c t => (dutyTok ER (kcell c (some (true, t.1, t.2))) 0 0 : sProp 𝕄), ← bigSep_sep', ← bigSep_sep']
  refine bigSep_mono fun c _ => ?_
  unfold payToks
  rw [bigSepL_map, bigSepL_map, ← bigSep_sep', bigSep_axes, bigSep_transfers]
  exact BI.Entails.refl _

/-! ## The invariants -/

/-- What the allocation of the invariants leaves each device with. -/
def G' (c : Dev nD) : sProp 𝕄 := iprop((∃ K, records m K) ∗ bigSepL (allCells.map .pos) (res m c) ∗ payToks m c)

/-- One device's cells are opened, giving their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun g : Cell => iprop(∃ κ : ℕ, cellInv ER (sched m) κ (kcell c g)))
          ∗ (bigSep Finset.univ fun g : Cell => iprop(atPos ER (kcell c g) 0 ∅ 0 ∗ reached ER (kcell c g) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun g : Cell => semVal (kcell c g) 0) ∗ bigSep Finset.univ fun g : Cell => roundState ER (sched m) (kcell c g) 0)
      ⊢ (|={Set.univ}=> bigSep Finset.univ fun g => iprop(∃ κ : ℕ, cellInv ER (sched m) κ (kcell c g)) : sProp 𝕄) from by
        rw [← bigSep_sep']
        exact (bigSep_mono fun g _ => (Rounds.body_intro ER (sched m) (kcell c g)).trans inv_alloc).trans (bigSep_fupd _ _)) $$ [Hv Hst] with Hinv
  · isplitl [Hv] <;> iassumption
  imodintro
  isplitl [Hinv]; · iexact Hinv
  isplitl [Hat]; · iexact Hat
  iexact Htok

/-- What all devices then hold, collected by kind. -/
theorem regroup :
    (bigSep Finset.univ fun c : Dev nD => iprop((bigSep Finset.univ fun g : Cell => iprop(∃ κ : ℕ, cellInv ER (sched m) κ (kcell c g)))
          ∗ (bigSep Finset.univ fun g : Cell => iprop(atPos ER (kcell c g) 0 ∅ 0 ∗ reached ER (kcell c g) 0)) ∗ toks c) : sProp 𝕄)
      ⊢ bigSep Finset.univ (G' (F := F) m) := by
  rw [bigSep_sep', bigSep_sep', ← bigSep_univ_prod (fun x : Dev nD × Cell => iprop(∃ κ : ℕ, cellInv ER (sched m) κ (kcell x.1 x.2))),
    bigSep_congr (s := Finset.univ) (fun (c : Dev nD) _ => bigSep_sep' Finset.univ (fun g : Cell => (atPos ER (kcell c g) 0 ∅ 0 : sProp 𝕄)) (fun g => reached ER (kcell c g) 0)),
    bigSep_sep', ← bigSep_univ_prod (fun x : Dev nD × Cell => (reached ER (kcell x.1 x.2) 0 : sProp 𝕄))]
  iintro ⟨HI, ⟨Hat, #HR⟩, Htok⟩
  ihave HK := (BI.bigSep_exists_pi Finset.univ (fun (x : Dev nD × Cell) (κ : ℕ) => (cellInv ER (sched m) κ (kcell x.1 x.2) : sProp 𝕄))) $$ HI
  icases HK with ⟨%K, #HI⟩
  ihave Htk := (toks_around m) $$ Htok
  iapply (bigSep_with_persistent (R := records m K) (Φ := fun c => iprop((bigSep Finset.univ fun g : Cell => atPos ER (kcell c g) 0 ∅ 0) ∗ payToks m c))
    fun c _ => show _ ⊢ G' m c from by
      unfold G'
      rw [bigSep_cells, bigSepL_map]
      iintro ⟨#HK, Hp, Ht⟩
      isplitr
      · iexists K; iexact HK
      isplitl [Hp]
      · iexact Hp
      · iexact Ht)
  isplitr
  · unfold records; isplitl; · iexact HI
    iexact HR
  · rw [bigSep_sep']
    isplitl [Hat]; · iexact Hat
    iexact Htk

/-- The allocation, for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credits -/

/-- What a device owes at the start. -/
def O₀ (c : Dev nD) : CellTallies nD τ sig Unit := owedL c start.2

/-- What all devices owe by one list is credit at each device's own cells. -/
theorem launchCred_owedL (c : Dev nD) : ∀ D : List Due,
    (Pipeline.launchCred (fun d => owedL d D) c : sProp 𝕄) ⊢ bigSepL D fun x => cred (tallyAt (kcell c x.cell) () (unit x.cell))
  | [] => Entails.of_eq (Pipeline.launchCred_zero c)
  | x :: D => by
    rw [show (fun d : Dev nD => owedL d (x :: D)) = fun d => owedL d D + owed1 d x from funext fun d => owedL_cons d x D,
      Pipeline.launchCred_add, bigSepL_cons']
    have h : (Pipeline.launchCred (fun d => owed1 d x) c : sProp 𝕄) ⊢ cred (tallyAt (kcell c x.cell) () (unit x.cell)) :=
      Pipeline.launchCred_tallyAt (csem x.cell) (nb x.axis) (nb x.axis) (nb_nb _) (nb_nb _) () (unit x.cell) c
    iintro ⟨HD, Hx⟩
    isplitl [Hx]
    · iapply h; iexact Hx
    · iapply (launchCred_owedL c D); iexact HD

/-- The barrier's three units are one credit. -/
theorem cred_bar (c : Dev nD) :
    bigSepL axes (fun a => cred (tallyAt (kcell c none) () 1)) ⊢ (cred (tallyAt (kcell c none) () 3) : sProp 𝕄) := by
  rw [show (tallyAt (kcell c none) () 3 : CellTallies nD τ sig Unit) = tallyAt (kcell c none) () 1 + (tallyAt (kcell c none) () 1 + tallyAt (kcell c none) () 1) from by
    rw [tallyAt_add, tallyAt_add]]
  exact (sep_mono_right (cred_add _ _).2).trans (cred_add _ _).2

/-- The credits a device starts with. -/
theorem creds (c : Dev nD) :
    (Pipeline.launchCred O₀ c : sProp 𝕄) ⊢ bigSepL (.cred none :: transfers.map fun t => .cred (some (true, t.1, t.2))) (res m c) := by
  refine (launchCred_owedL c start.2).trans ?_
  rw [show start.2 = axes.map .bar ++ transfers.map fun t => .recv t.1 t.2 from rfl, bigSepL_append, bigSepL_map, bigSepL_map, bigSepL_cons', bigSepL_map]
  exact sep_mono_left (cred_bar c)

end Cert.KernelProof

end
-- ==== Proof.Launch.lean ====
/-
The launch: the body at what the pipeline calls it with, what the launch hands it, and the whole run.
-/
module

public import proofs.«01_k».proof.Proof.Body
public import proofs.«01_k».proof.Proof.Whole
public import proofs.«01_k».proof.Proof.Deal
public import proofs.«01_k».proof.Proof.Gen.KernelIdeal.Points
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The memory at launch: arbitrary contents, every semaphore counter zero, arbitrary generator registers. -/
def s₀ : MemSt nD τ sig (Elt F) := ⟨m, fun _ => 0, ρ⟩

/-! ## The pipeline's proof data -/

/-- The launch has one point. -/
theorem cfg0_N : cfg0.N = 1 := by decide
/-- The only point. -/
def t₀ : Fin cfg0.N := ⟨0, by rw [cfg0_N]; decide⟩
/-- Every point is the only point. -/
theorem fin_N (t : Fin cfg0.N) : t = t₀ := by
  obtain ⟨t, ht⟩ := t; have := cfg0_N; exact Fin.ext (by simp only [t₀]; omega)

/-- What a device holds at the start besides its shard and its result. -/
def ghosts : List Res :=
  axes.map .barTok ++ (transfers.map (fun t => .tok t.1 t.2)
    ++ (allCells.map .pos ++ (.cred none :: transfers.map fun t => .cred (some (true, t.1, t.2)))))

/-- The start is the shard, the pieces of the result, and the ghosts. -/
theorem start_eq : start.1 = .x :: ((pieces lens₀).map (.mem .junk) ++ ghosts) := rfl

/-- Before the body. -/
def Φ₀ (c : Dev nD) : sProp 𝕄 := iprop(known m ∗ bigSepL ghosts (res m c))
/-- After the body: every counter back at zero. -/
def Φ₁ (c : Dev nD) : sProp 𝕄 := bigSepL (allCells.map .zero) (res m c)

/-- The contents of the arrays and the staging buffers, what is held and what is owed, before and after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The two windows. -/
theorem bigSep_W (Φ : Fin cfg0.W → sProp 𝕄) : bigSep Finset.univ Φ = iprop(Φ (0 : Fin 2) ∗ Φ (1 : Fin 2)) := bigSep_W0 Φ

/-- The input is fetched at the only point. -/
theorem fetch_0 (t : Fin cfg0.N) : (cfg0.win (0 : Fin 2)).fetch t = true := by rw [fin_N t]; rfl

/-- A staging buffer at the given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer through its window is its points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

/-- What the body is called with. -/
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body leaves. -/
def bodyPost (c : Dev nD) : sProp 𝕄 :=
  iprop(Φ₁ m c ∗ (dats m ρ 0 c).owesAt () t₀.succ ∗ stg c cc0_stg0_0 (xstg m c) ∗ stg c cc0_stg1_0 (outAt m c))

/-- The shard among the resources. -/
theorem res_x (c : Dev nD) : res m c .x = iprop((xLoc c) ↦{fullShare} xstg m c) := rfl

/-- What the pipeline hands the body is the state before the first step. -/
theorem pre_bag (c : Dev nD) : bodyPre m ρ c ⊢ bag m c (stAt 0) := by
  rw [stAt_zero]
  unfold bodyPre Φ₀ bag Dat.owesAt Pipeline.owesWithin
  rw [start_eq, bigSepL_cons', bigSepL_append, res_x]
  iintro ⟨⟨#Hk, Hg⟩, ⟨%W, %hW, HO⟩, ⟨%d0, %g0, %hg0, Hx⟩, ⟨%d1, %g1, %hg1, Hout⟩⟩
  have hx : g0 = xstg m c := by rw [hg0]; unfold Dat.before; rw [if_pos (fetch_0 t₀)]; rfl
  subst hx
  isplitr; · iexact Hk
  isplitr [HO]
  · isplitl [Hx]; · iexact Hx
    isplitl [Hout]
    · iapply (pieces_intro m c g1); iexact Hout
    · iexact Hg
  · iexists W; iexact HO

/-- The state after the last step is what the pipeline wants back. -/
theorem bag_post (c : Dev nD) : bag m c (stAt 122) ⊢ bodyPost m ρ c := by
  obtain ⟨hD, hR⟩ := stAt_end
  rw [plan_length] at hD hR
  unfold bag
  rw [hD, bigSepL_of_perm hR]
  unfold final bodyPost Φ₁ Dat.owesAt Pipeline.owesWithin
  rw [bigSepL_cons', bigSepL_append, res_x]
  iintro ⟨-, ⟨Hx, Hp, Hz⟩, ⟨%W, HO⟩⟩
  isplitl [Hz]; · iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iapply (pieces_elim m c); iexact Hp

/-- A program that ends in the state after the last step ends with what the pipeline wants back. -/
theorem post_mono (c : Dev nD) {α : Type} (p : Prog (TpuEff nD τ sig (Elt F) Λ₀ .tc) α) :
    WP c p (fun _ => bag m c (stAt 122)) ⊢ WP c p (fun _ => bodyPost m ρ c) :=
  Idealize.SL.Sem.wp_mono _ _ _ fun _ => bag_post m ρ c

/-- Before the point the device holds what it started with. -/
theorem dats_Φ₀ (c : Dev nD) : (dats m ρ 0 c).Φ t₀.castSucc = Φ₀ m c := by
  unfold dats
  rfl
/-- After it, its counters at zero. -/
theorem dats_Φ₁ (c : Dev nD) : (dats m ρ 0 c).Φ t₀.succ = Φ₁ m c := by
  unfold dats
  rfl

/-- The body at the only point is the body on the two staging buffers. -/
theorem bodyAt_eq (h0 h1) : bodyAt0 (F := F) t₀
    = cc0_body xM h0 oM h1 cc0_scratch0 cc0_scratch1 cc0_scratch2 cc0_scratch3 cc0_scratch4 cc0_scratch5 := by
  unfold bodyAt0
  congr 1

/-- The body as the pipeline calls it. -/
theorem sound_body (c : Dev nD) : bodyPre m ρ c ⊢ WP c (bodyAt0 t₀) (fun _ => bodyPost m ρ c) := by
  rw [bodyAt_eq (Memref.isWhole_whole _) (Memref.isWhole_whole _)]
  exact (pre_bag m ρ c).trans ((body_steps m c _ _).trans (post_mono m ρ c _))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  rw [dats_Φ₀, dats_Φ₁,
    show (dats m ρ 0 c).after 0 t₀ = xstg m c from rfl, show (dats m ρ 0 c).after 1 t₀ = outAt m c from rfl]
  have h := sound_body m ρ c
  have hp : defs₀ (F := F) Proc.tc 0 (t₀, cfg0.slots t₀) = bodyAt0 t₀ := rfl
  unfold bodyPre bodyPost at h
  generalize bodyAt0 (F := F) t₀ = p at h hp
  rw [hp]
  exact h

/-! ## The launch -/

/-- All arrays are held whole. -/
theorem share_eq (c : Dev nD) (w : Fin cfg0.W) : (dats m ρ 0 c).share w = fullShare := by unfold Dat.share; split <;> rfl

/-- What a device's body starts with, from what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  iintro ⟨-, Hlev, Hcr, -, HG⟩
  ihave Hc := (creds m c) $$ Hcr
  unfold G' payToks
  icases HG with ⟨HK, Hp, Hb, Ht⟩
  imodintro
  unfold Φ₀ known ghosts
  rw [bigSepL_append, bigSepL_append, bigSepL_append]
  isplitl
  · isplitl [HK Hlev]
    · isplitl [HK] <;> iassumption
    isplitl [Hb]; · iexact Hb
    isplitl [Ht]; · iexact Ht
    isplitl [Hp]; · iexact Hp
    iexact Hc
  · iempintro

/-- What the launch deals a device is what the body starts from. -/
theorem phi0_intro (c : Dev nD) :
    iprop(Φ₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  iintro ⟨Hs, -, -⟩
  iexact Hs

/-- At the end the counters are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [bigSepL_map, ← bigSep_cells]
  have h : (bigSep Finset.univ fun g : Cell => res m c (.zero g)) ⊢ iprop(unscopedSems0 c ∗ Pipeline.ownSems0 osem c) :=
    Entails.of_eq (sems0_eq (F := F) c).symm
  iintro H
  ihave H' := h $$ H
  icases H' with ⟨H1, H2⟩
  isplitl [H1]; · iexact H1
  isplitl [H2]; · iexact H2
  iempintro

/-- At the start every cell owed lies above level zero. -/
theorem start_levels : ∀ d ∈ start.2, 0 < level d.cell := by decide +kernel

/-- The pipeline's own waits. -/
theorem mayWait_stage (c : Dev nD) (sm : SemLoc sig) (hs : decode sm = none) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g' u hg => by obtain ⟨d, -, rfl⟩ := owedL_pos c hg; exact Finset.mem_singleton_self _)
      (fun p hp => by rw [Finset.mem_singleton.mp hp]; unfold lv; rw [hs]; exact le_refl _)
      (fun g' u hg => by obtain ⟨d, hd, rfl⟩ := owedL_pos c hg; rw [lv_cell]; exact start_levels d hd)
  · rw [MayWait_zero]; iintro -; iempintro

/-- The launch's own waits lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- An array of a window after the run. -/
def finalA (c : Dev nD) (w : Fin cfg0.W) : Buf (Elt F) ((cfg0.win w).arr.view.loc (c : Thread nD τ)) := (dats m ρ 0 c).arrAt w cfg0.N

/-- Each device's arrays as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values and from any memory with zero counters: every weakly fair execution
    terminates, with each device's arrays as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := Φ₀ m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The shard after the run is what it was. -/
theorem finalA_x (c : Dev nD) : finalA m ρ c (0 : Fin 2) = m ((c : Thread nD τ).loc main_arg0) :=
  (dats (F := F) m ρ 0 c).arrAt_in (0 : Fin 2) rfl _

end Cert.KernelProof

end
-- ==== Proof.Value.lean ====
/-
The result: once the launch is over, every device's output array is the whole array of which its input was a half.
-/
module

public import proofs.«01_k».proof.Proof.Launch
public import Idealize.ShloMosaic.Lib.Pipeline.Value
public import Idealize.ShloMosaic.Lib.Layout

@[expose] public section

noncomputable section

namespace Cert.KernelProof

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The staged copy of a shard is the shard. -/
theorem xstg_eq (c : Dev nD) : xstg m c = m ((c : Thread nD τ).loc main_arg0) :=
  Memref.read_access_unit_zero (Elt F) main_arg0 (off := fun a => 0 * S4096x1024.size a)
    (funext fun _ => Nat.zero_mul _) _ (m ((c : Thread nD τ).loc main_arg0))

/-- What the launch stores back is the block of `outAt` it stores it to. -/
theorem flushed_out (c : Dev nD) (t : Fin cfg0.N) :
    (dats m ρ 0 c).flushed 1 t = ((cfg0.win 1).blk t).view.read (Elt F) (outAt m c) := by
  have e : ((cfg0.win 1).blk t).view.read (Elt F) (outAt m c) = outAt m c :=
    Memref.read_access_unit_zero (Elt F) main_v1 (off := fun a => 0 * S8192x1024.size a)
      (funext fun _ => Nat.zero_mul _) _ (outAt m c)
  rw [e]
  rfl

/-- The one block stored back is the whole output. -/
theorem cover_out (i : S8192x1024.Idx) :
    ∃ t : Fin cfg0.N, (cfg0.win 1).flush t = true ∧ i ∈ ((cfg0.win 1).blk t).view.set := by
  refine ⟨t₀, flush0_1 _, ?_⟩
  show i ∈ ((View.whole main_v1).slice (win0_1.rect t₀)).set
  rw [View.set_slice_whole]
  exact View.mem_set_unit_zero (S := S8192x1024) (off := fun a => 0 * S8192x1024.size a) (funext fun _ => Nat.zero_mul _) _ i

/-- A device's output array ends as the rows of the devices they come from. -/
theorem finalA_out (c : Dev nD) : finalA m ρ c (1 : Fin 2) = outAt m c :=
  (dats m ρ 0 c).arrAt_eq_of_cover 1 (outAt m c) (fun t _ => flushed_out m ρ c t) cover_out

/-- If each device's input is its half of one array, `outAt` is that array, on every device. -/
theorem outAt_whole (v : S8192x1024.Idx → Elt F .bf16)
    (hm : ∀ c : Dev nD, m ((c : Thread nD τ).loc main_arg0)
      = Layout.blockN ⟨2, ![4096, 1024]⟩ ⟨2, ![8192, 1024]⟩ (Layout.meshBlock [2, 2, 4] ![[1], []] c) v) (c : Dev nD) :
    outAt m c = v := by
  funext i
  unfold outAt
  rw [xstg_eq, hm, Layout.blockN_apply]
  congr 1
  have h0 : (i 0).val < 8192 := (i 0).isLt
  funext b
  apply Fin.ext
  rw [Layout.TilesN.idx_val, Layout.meshBlock_val]
  match b with
  | ⟨0, _⟩ =>
    have ho := owner_half c ⟨(i 0).val / 1024, by omega⟩ (decide (576 ≤ (i 0).val % 1024))
    have e : Layout.meshLin [2, 2, 4] (ownerAt c i).val [1] = (ownerAt c i).val / 4 % 2 := by
      show (ownerAt c i).val / 4 % 2 * 1 + 0 = _
      omega
    show Layout.meshLin [2, 2, 4] (ownerAt c i).val [1] * 4096 + (i 0).val % 4096 = (i 0).val
    rw [e]
    unfold ownerAt
    simp only at ho
    rw [ho]
    omega
  | ⟨1, _⟩ =>
    show 0 * 1024 + (i 1).val = (i 1).val
    omega

/-- The run as the claims read it: inputs unchanged, outputs as computed, every counter at zero. -/
theorem run_values : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)) ∧ r.2.sem = fun _ => 0) :=
  (θ_run defs _ _).mono (fun _ h => ⟨fun c =>
    ⟨(h.1 c (1 : Fin 2)).trans (finalA_out m ρ c), (h.1 c (0 : Fin 2)).trans (finalA_x m ρ c)⟩, h.2⟩) (run_main m ρ)

/-- The part of it a frame states. -/
theorem run_keeps : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_values m ρ)

end Cert.KernelProof

end
-- ==== Proof.Ref.lean ====
/-
The reference has no operation: its argument is its result, and it runs leaving the memory as it is.
-/
module

public import proofs.«01_k».proof.Proof.Gen.ReferenceIdeal
public import Idealize.ShloMosaic.Lib.StableHlo.Run
public import Idealize.ShloMosaic.Lib.Quiescent

@[expose] public section

noncomputable section

namespace Cert.ReferenceProof

open Cert.ReferenceIdeal Cert.ReferenceIdeal.Gen
open Idealize.ShloMosaic Idealize.ShloMosaic.TcCoe Idealize.ShloMosaic.StableHlo
open Idealize.SL.Sem

variable {F : FTy → Type} [FloatOps F]

/-- The reference terminates, its one array as it was. -/
theorem run_keeps (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0))
        ∧ r.2.sem = fun _ => 0 :=
  (θ_run defs _ _).mono (fun r h => ⟨fun c => h c main_arg0, sem_eq_zero_of_no_sems (by decide) r.2⟩)
    (run_seq (by decide) (by decide) defs main (fun _ => ([] : List (HloOp τ sig (Elt F)))) (fun _ => rfl)
      (fun _ => trivial) m ρ)

end Cert.ReferenceProof

end
-- ==== Proof.lean ====
/-
The proof of `Cert.Claim`: the three frames, the preservation of the kernel by its ideal reading, and the agreement of
the ideal kernel with the reference. Kernel and ideal kernel are one text, so one run, stated for any float values,
serves both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel and its ideal reading have the same table of bodies: the only label runs the same text. -/
theorem table_same : @Cert.Kernel.defs₀ Bits _ = @Cert.KernelIdeal.defs₀ Bits _ := by
  funext p ℓ a
  match p with
  | .tc => match ℓ, a with
    | ⟨0, _⟩, (t, s) => rfl
  | .scScalar _ => rfl
  | .scVector _ _ => rfl

/-- So they have the same table of programs, -/
theorem defs_same : @Cert.Kernel.defs Bits _ = @Cert.KernelIdeal.defs Bits _ :=
  congrArg (Pipeline.defs (Cert.KernelIdeal.pcfgs (F := Bits))) table_same

/-- and the kernel at machine floats runs and leaves its inputs and every counter as they were. -/
theorem frame_kernel : Cert.quiescent_Kernel := by
  intro m ρ _
  have h := Cert.KernelProof.run_keeps (F := Bits) m ρ
  rw [← defs_same] at h
  exact h

/-- The same at ideal floats. -/
theorem frame_ideal : Cert.quiescent_KernelIdeal := fun m ρ _ => Cert.KernelProof.run_keeps (F := Ideal) m ρ

/-- The reference runs and leaves its input and every counter as they were. -/
theorem frame_reference : Cert.quiescent_ReferenceIdeal := fun m ρ _ => Cert.ReferenceProof.run_keeps m ρ

/-- Every device ends with the whole array the reference gives back. -/
theorem agrees : Cert.algebraic_KernelIdeal_ReferenceIdeal := by
  intro m ρ m' ρ' _ hm
  refine ⟨m' _, ?_, (θ_run Cert.ReferenceIdeal.defs _ _).mono (fun _ h => ⟨h.1 0, h.1 0⟩) (Cert.ReferenceProof.run_keeps m' ρ')⟩
  exact (θ_run Cert.KernelIdeal.defs _ _).mono
    (fun _ h c => ⟨(h.1 c).1.trans (Cert.KernelProof.outAt_whole m _ hm c), (h.1 c).2⟩)
    (Cert.KernelProof.run_values (F := Ideal) m ρ)

/-- All five claims. -/
theorem claim : Cert.Claim :=
  ⟨Cert.Kernel.Gen.facts, Cert.KernelIdeal.Gen.facts, Cert.ReferenceIdeal.Gen.facts,
    frame_kernel, frame_ideal, frame_reference, trivial, agrees⟩

end Cert.Proof

end
